-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel) (hPre_ids_in_table := hPre_ids_in_table)
    ∧ quiescent_KernelIdeal (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal (hKernelIdeal := hKernelIdeal) (hReferenceIdeal := hReferenceIdeal) (hPre_ids_in_table := hPre_ids_in_table)
-- ==== Pre_ids_in_table.lean ====
abbrev S2x1024 : Shape := ⟨2, ![2, 1024]⟩
abbrev S64000x2048 : Shape := ⟨2, ![64000, 2048]⟩
abbrev S64000x128 : Shape := ⟨2, ![64000, 128]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : IVec S2x1024 32) (main_arg1 : IVec S64000x2048 8) (main_arg2 : IVec S64000x128 16) : IVec S_ 1 :=
  let main_c : IVec S_ 32 := constantI S_ 32 0#32
  let main_v0 : IVec S2x1024 32 := broadcastInDim S2x1024 ![] bcast_S_S2x1024 main_c
  let main_v1 : IVec S2x1024 1 := cmpi .sge main_arg0 main_v0
  let main_c_0 : IVec S_ 32 := constantI S_ 32 64000#32
  let main_v2 : IVec S2x1024 32 := broadcastInDim S2x1024 ![] bcast_S_S2x1024 main_c_0
  let main_v3 : IVec S2x1024 1 := cmpi .slt main_arg0 main_v2
  let main_v4 : IVec S2x1024 1 := andi main_v1 main_v3
  let main_c_1 : IVec S_ 1 := constantI S_ 1 1#1
  let main_v5 : IVec S_ 1 := (fun x v => Host.reduce IntOp.andi x v reducesTo_S2x1024_S_d0_1 h_S_) main_v4 main_c_1
  main_v5
-- ==== Kernel.lean ====
abbrev S2x1024 : Shape := ⟨2, ![2, 1024]⟩
abbrev S64000x2048 : Shape := ⟨2, ![64000, 2048]⟩
abbrev S64000x128 : Shape := ⟨2, ![64000, 128]⟩
abbrev S2048 : Shape := ⟨1, ![2048]⟩
abbrev S16000x4x2048 : Shape := ⟨3, ![16000, 4, 2048]⟩
abbrev S16000x2048x4 : Shape := ⟨3, ![16000, 2048, 4]⟩
abbrev S16000x2048 : Shape := ⟨2, ![16000, 2048]⟩
abbrev S32000x2x128 : Shape := ⟨3, ![32000, 2, 128]⟩
abbrev S32000x128x2 : Shape := ⟨3, ![32000, 128, 2]⟩
abbrev S32000x128 : Shape := ⟨2, ![32000, 128]⟩
abbrev S2048x1 : Shape := ⟨2, ![2048, 1]⟩
abbrev S2048x4096 : Shape := ⟨2, ![2048, 4096]⟩
abbrev S128x1 : Shape := ⟨2, ![128, 1]⟩
abbrev S128x4096 : Shape := ⟨2, ![128, 4096]⟩
abbrev S2x128x2048 : Shape := ⟨3, ![2, 128, 2048]⟩
abbrev S2x128x128 : Shape := ⟨3, ![2, 128, 128]⟩
abbrev S2 : Shape := ⟨1, ![2]⟩
abbrev S1 : Shape := ⟨1, ![1]⟩
abbrev S_ : Shape := ⟨0, ![]⟩
abbrev S1x1x2048 : Shape := ⟨3, ![1, 1, 2048]⟩
abbrev S1x2048 : Shape := ⟨2, ![1, 2048]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S256x256 : Shape := ⟨2, ![256, 256]⟩
abbrev S128x128x1 : Shape := ⟨3, ![128, 128, 1]⟩
abbrev S128x256 : Shape := ⟨2, ![128, 256]⟩

abbrev nBuf : Space → Nat
  | .hbm => 11
  | .vmem => 6
  | .smem => 1
  | _ => 0

abbrev bufTy : (tb : Table) → Fin (tcTables nBuf tb) → BufTy
  | .hbm, ⟨0, _⟩ => ⟨S2x1024, .i32⟩
  | .hbm, ⟨1, _⟩ => ⟨S64000x2048, .i8⟩
  | .hbm, ⟨2, _⟩ => ⟨S64000x128, .i16⟩
  | .hbm, ⟨3, _⟩ => ⟨S16000x4x2048, .i8⟩
  | .hbm, ⟨4, _⟩ => ⟨S16000x2048x4, .i8⟩
  | .hbm, ⟨5, _⟩ => ⟨S16000x2048, .i32⟩
  | .hbm, ⟨6, _⟩ => ⟨S32000x2x128, .i16⟩
  | .hbm, ⟨7, _⟩ => ⟨S32000x128x2, .i16⟩
  | .hbm, ⟨8, _⟩ => ⟨S32000x128, .i32⟩
  | .hbm, ⟨9, _⟩ => ⟨S2048x1, .i32⟩
  | .hbm, ⟨10, _⟩ => ⟨S2048x4096, .bf16⟩
  | .local _ .vmem, ⟨0, _⟩ => ⟨S128x1, .i32⟩
  | .local _ .vmem, ⟨1, _⟩ => ⟨S128x1, .i32⟩
  | .local _ .vmem, ⟨2, _⟩ => ⟨S128x4096, .bf16⟩
  | .local _ .vmem, ⟨3, _⟩ => ⟨S128x4096, .bf16⟩
  | .local _ .vmem, ⟨4, _⟩ => ⟨S2x128x2048, .i32⟩
  | .local _ .vmem, ⟨5, _⟩ => ⟨S2x128x128, .i32⟩
  | .local _ .smem, ⟨0, _⟩ => ⟨S2048, .i32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_301 : BitVec 32 := 0#32
  let c16_i32_302 : BitVec 32 := 16#32
  let v1007 : BitVec 32 := Scalar.addi c0_i32_301 c16_i32_302
  let c1_i32_303 : BitVec 32 := 1#32
  ⟨c0_i32_301, v1007, c1_i32_303⟩
def k0_off1 (k0_t1 : Fin k0_t1_loop.trips) : Fin 1 → Nat :=
  let c0_i32_307 : BitVec 32 := 0#32
  let c0_i32_301 : BitVec 32 := 0#32
  let c1_i32_303 : BitVec 32 := 1#32
  let arg10 : BitVec 32 := Scf.iv c0_i32_301 c1_i32_303 k0_t1
  let c8_i32_305 : BitVec 32 := 8#32
  let v1008 : BitVec 32 := Scalar.muli arg10 c8_i32_305
  let c0_i32_306 : BitVec 32 := 0#32
  let v1009 : BitVec 32 := Scalar.addi v1008 c0_i32_306
  let v1010 : BitVec 32 := Scalar.addi c0_i32_307 v1009
  let v1011 : Index := Scalar.indexCast v1010
  ![v1011.toNat]
def k0_off2 (k0_t1 : Fin k0_t1_loop.trips) : Fin 3 → Nat :=
  let c0_i32_309 : BitVec 32 := 0#32
  let c0_i32_301 : BitVec 32 := 0#32
  let c1_i32_303 : BitVec 32 := 1#32
  let arg10 : BitVec 32 := Scf.iv c0_i32_301 c1_i32_303 k0_t1
  let c8_i32_305 : BitVec 32 := 8#32
  let v1008 : BitVec 32 := Scalar.muli arg10 c8_i32_305
  let c0_i32_306 : BitVec 32 := 0#32
  let v1009 : BitVec 32 := Scalar.addi v1008 c0_i32_306
  let c0_i32_311 : BitVec 32 := 0#32
  ![0, v1009.toNat, 0]
def k0_off3 (v1012 : BitVec 32) : Fin 2 → Nat :=
  let c2_i32_308 : BitVec 32 := 2#32
  let v1013 : BitVec 32 := Scalar.shrui v1012 c2_i32_308
  let c0_i32_312 : BitVec 32 := 0#32
  ![v1013.toNat, 0]

def k0_off4 (k0_t1 : Fin k0_t1_loop.trips) : Fin 3 → Nat :=
  let c0_i32_314 : BitVec 32 := 0#32
  let c0_i32_301 : BitVec 32 := 0#32
  let c1_i32_303 : BitVec 32 := 1#32
  let arg10 : BitVec 32 := Scf.iv c0_i32_301 c1_i32_303 k0_t1
  let c8_i32_305 : BitVec 32 := 8#32
  let v1008 : BitVec 32 := Scalar.muli arg10 c8_i32_305
  let c0_i32_306 : BitVec 32 := 0#32
  let v1009 : BitVec 32 := Scalar.addi v1008 c0_i32_306
  let c0_i32_316 : BitVec 32 := 0#32
  ![0, v1009.toNat, 0]
def k0_off5 (v1012 : BitVec 32) : Fin 2 → Nat :=
  let c1_i32_313 : BitVec 32 := 1#32
  let v1019 : BitVec 32 := Scalar.shrui v1012 c1_i32_313
  let c0_i32_317 : BitVec 32 := 0#32
  ![v1019.toNat, 0]

def k0_chk1 (i : grid0.Coords) (v1012 : BitVec 32) : Prop :=
  (∀ (k0_h1 : k0_cond1 i = 1#1), ∀ a, (k0_off3 v1012) a + S1x2048.size a ≤ S16000x2048.size a) ∧
  (∀ (k0_h1 : k0_cond1 i = 1#1), ∀ a, (k0_off5 v1012) a + S1x128.size a ≤ S32000x128.size a)
theorem k0_off3_inb : ∀ (i : grid0.Coords) (v1012 : BitVec 32) (k0_hw1 : k0_chk1 i v1012), ∀ (k0_h1 : k0_cond1 i = 1#1), ∀ a, (k0_off3 v1012) a + S1x2048.size a ≤ S16000x2048.size a := fun i v1012 k0_hw1 k0_h1 => k0_hw1.1 k0_h1
theorem k0_off5_inb : ∀ (i : grid0.Coords) (v1012 : BitVec 32) (k0_hw1 : k0_chk1 i v1012), ∀ (k0_h1 : k0_cond1 i = 1#1), ∀ a, (k0_off5 v1012) a + S1x128.size a ≤ S32000x128.size a := fun i v1012 k0_hw1 k0_h1 => k0_hw1.2 k0_h1

def k0_off6 (k0_t1 : Fin k0_t1_loop.trips) : Fin 1 → Nat :=
  let c0_i32_320 : BitVec 32 := 0#32
  let c0_i32_301 : BitVec 32 := 0#32
  let c1_i32_303 : BitVec 32 := 1#32
  let arg10 : BitVec 32 := Scf.iv c0_i32_301 c1_i32_303 k0_t1
  let c8_i32_318 : BitVec 32 := 8#32
  let v1025 : BitVec 32 := Scalar.muli arg10 c8_i32_318
  let c1_i32_319 : BitVec 32 := 1#32
  let v1026 : BitVec 32 := Scalar.addi v1025 c1_i32_319
  let v1027 : BitVec 32 := Scalar.addi c0_i32_320 v1026
  let v1028 : Index := Scalar.indexCast v1027
  ![v1028.toNat]
def k0_off7 (k0_t1 : Fin k0_t1_loop.trips) : Fin 3 → Nat :=
  let c0_i32_322 : BitVec 32 := 0#32
  let c0_i32_301 : BitVec 32 := 0#32
  let c1_i32_303 : BitVec 32 := 1#32
  let arg10 : BitVec 32 := Scf.iv c0_i32_301 c1_i32_303 k0_t1
  let c8_i32_318 : BitVec 32 := 8#32
  let v1025 : BitVec 32 := Scalar.muli arg10 c8_i32_318
  let c1_i32_319 : BitVec 32 := 1#32
  let v1026 : BitVec 32 := Scalar.addi v1025 c1_i32_319
  let c0_i32_324 : BitVec 32 := 0#32
  ![0, v1026.toNat, 0]
def k0_off8 (v1029 : BitVec 32) : Fin 2 → Nat :=
  let c2_i32_321 : BitVec 32 := 2#32
  let v1030 : BitVec 32 := Scalar.shrui v1029 c2_i32_321
  let c0_i32_325 : BitVec 32 := 0#32
  ![v1030.toNat, 0]

def k0_off9 (k0_t1 : Fin k0_t1_loop.trips) : Fin 3 → Nat :=
  let c0_i32_327 : BitVec 32 := 0#32
  let c0_i32_301 : BitVec 32 := 0#32
  let c1_i32_303 : BitVec 32 := 1#32
  let arg10 : BitVec 32 := Scf.iv c0_i32_301 c1_i32_303 k0_t1
  let c8_i32_318 : BitVec 32 := 8#32
  let v1025 : BitVec 32 := Scalar.muli arg10 c8_i32_318
  let c1_i32_319 : BitVec 32 := 1#32
  let v1026 : BitVec 32 := Scalar.addi v1025 c1_i32_319
  let c0_i32_329 : BitVec 32 := 0#32
  ![0, v1026.toNat, 0]
def k0_off10 (v1029 : BitVec 32) : Fin 2 → Nat :=
  let c1_i32_326 : BitVec 32 := 1#32
  let v1036 : BitVec 32 := Scalar.shrui v1029 c1_i32_326
  let c0_i32_330 : BitVec 32 := 0#32
  ![v1036.toNat, 0]

def k0_chk2 (i : grid0.Coords) (v1029 : BitVec 32) : Prop :=
  (∀ (k0_h1 : k0_cond1 i = 1#1), ∀ a, (k0_off8 v1029) a + S1x2048.size a ≤ S16000x2048.size a) ∧
  (∀ (k0_h1 : k0_cond1 i = 1#1), ∀ a, (k0_off10 v1029) a + S1x128.size a ≤ S32000x128.size a)
theorem k0_off8_inb : ∀ (i : grid0.Coords) (v1029 : BitVec 32) (k0_hw2 : k0_chk2 i v1029), ∀ (k0_h1 : k0_cond1 i = 1#1), ∀ a, (k0_off8 v1029) a + S1x2048.size a ≤ S16000x2048.size a := fun i v1029 k0_hw2 k0_h1 => k0_hw2.1 k0_h1
theorem k0_off10_inb : ∀ (i : grid0.Coords) (v1029 : BitVec 32) (k0_hw2 : k0_chk2 i v1029), ∀ (k0_h1 : k0_cond1 i = 1#1), ∀ a, (k0_off10 v1029) a + S1x128.size a ≤ S32000x128.size a := fun i v1029 k0_hw2 k0_h1 => k0_hw2.2 k0_h1

def k0_off11 (k0_t1 : Fin k0_t1_loop.trips) : Fin 1 → Nat :=
  let c0_i32_333 : BitVec 32 := 0#32
  let c0_i32_301 : BitVec 32 := 0#32
  let c1_i32_303 : BitVec 32 := 1#32
  let arg10 : BitVec 32 := Scf.iv c0_i32_301 c1_i32_303 k0_t1
  let c8_i32_331 : BitVec 32 := 8#32
  let v1042 : BitVec 32 := Scalar.muli arg10 c8_i32_331
  let c2_i32_332 : BitVec 32 := 2#32
  let v1043 : BitVec 32 := Scalar.addi v1042 c2_i32_332
  let v1044 : BitVec 32 := Scalar.addi c0_i32_333 v1043
  let v1045 : Index := Scalar.indexCast v1044
  ![v1045.toNat]
def k0_off12 (k0_t1 : Fin k0_t1_loop.trips) : Fin 3 → Nat :=
  let c0_i32_335 : BitVec 32 := 0#32
  let c0_i32_301 : BitVec 32 := 0#32
  let c1_i32_303 : BitVec 32 := 1#32
  let arg10 : BitVec 32 := Scf.iv c0_i32_301 c1_i32_303 k0_t1
  let c8_i32_331 : BitVec 32 := 8#32
  let v1042 : BitVec 32 := Scalar.muli arg10 c8_i32_331
  let c2_i32_332 : BitVec 32 := 2#32
  let v1043 : BitVec 32 := Scalar.addi v1042 c2_i32_332
  let c0_i32_337 : BitVec 32 := 0#32
  ![0, v1043.toNat, 0]
def k0_off13 (v1046 : BitVec 32) : Fin 2 → Nat :=
  let c2_i32_334 : BitVec 32 := 2#32
  let v1047 : BitVec 32 := Scalar.shrui v1046 c2_i32_334
  let c0_i32_338 : BitVec 32 := 0#32
  ![v1047.toNat, 0]

def k0_off14 (k0_t1 : Fin k0_t1_loop.trips) : Fin 3 → Nat :=
  let c0_i32_340 : BitVec 32 := 0#32
  let c0_i32_301 : BitVec 32 := 0#32
  let c1_i32_303 : BitVec 32 := 1#32
  let arg10 : BitVec 32 := Scf.iv c0_i32_301 c1_i32_303 k0_t1
  let c8_i32_331 : BitVec 32 := 8#32
  let v1042 : BitVec 32 := Scalar.muli arg10 c8_i32_331
  let c2_i32_332 : BitVec 32 := 2#32
  let v1043 : BitVec 32 := Scalar.addi v1042 c2_i32_332
  let c0_i32_342 : BitVec 32 := 0#32
  ![0, v1043.toNat, 0]
def k0_off15 (v1046 : BitVec 32) : Fin 2 → Nat :=
  let c1_i32_339 : BitVec 32 := 1#32
  let v1053 : BitVec 32 := Scalar.shrui v1046 c1_i32_339
  let c0_i32_343 : BitVec 32 := 0#32
  ![v1053.toNat, 0]

def k0_chk3 (i : grid0.Coords) (v1046 : BitVec 32) : Prop :=
  (∀ (k0_h1 : k0_cond1 i = 1#1), ∀ a, (k0_off13 v1046) a + S1x2048.size a ≤ S16000x2048.size a) ∧
  (∀ (k0_h1 : k0_cond1 i = 1#1), ∀ a, (k0_off15 v1046) a + S1x128.size a ≤ S32000x128.size a)
theorem k0_off13_inb : ∀ (i : grid0.Coords) (v1046 : BitVec 32) (k0_hw3 : k0_chk3 i v1046), ∀ (k0_h1 : k0_cond1 i = 1#1), ∀ a, (k0_off13 v1046) a + S1x2048.size a ≤ S16000x2048.size a := fun i v1046 k0_hw3 k0_h1 => k0_hw3.1 k0_h1
theorem k0_off15_inb : ∀ (i : grid0.Coords) (v1046 : BitVec 32) (k0_hw3 : k0_chk3 i v1046), ∀ (k0_h1 : k0_cond1 i = 1#1), ∀ a, (k0_off15 v1046) a + S1x128.size a ≤ S32000x128.size a := fun i v1046 k0_hw3 k0_h1 => k0_hw3.2 k0_h1

def k0_off16 (k0_t1 : Fin k0_t1_loop.trips) : Fin 1 → Nat :=
  let c0_i32_346 : BitVec 32 := 0#32
  let c0_i32_301 : BitVec 32 := 0#32
  let c1_i32_303 : BitVec 32 := 1#32
  let arg10 : BitVec 32 := Scf.iv c0_i32_301 c1_i32_303 k0_t1
  let c8_i32_344 : BitVec 32 := 8#32
  let v1059 : BitVec 32 := Scalar.muli arg10 c8_i32_344
  let c3_i32_345 : BitVec 32 := 3#32
  let v1060 : BitVec 32 := Scalar.addi v1059 c3_i32_345
  let v1061 : BitVec 32 := Scalar.addi c0_i32_346 v1060
  let v1062 : Index := Scalar.indexCast v1061
  ![v1062.toNat]
def k0_off17 (k0_t1 : Fin k0_t1_loop.trips) : Fin 3 → Nat :=
  let c0_i32_348 : BitVec 32 := 0#32
  let c0_i32_301 : BitVec 32 := 0#32
  let c1_i32_303 : BitVec 32 := 1#32
  let arg10 : BitVec 32 := Scf.iv c0_i32_301 c1_i32_303 k0_t1
  let c8_i32_344 : BitVec 32 := 8#32
  let v1059 : BitVec 32 := Scalar.muli arg10 c8_i32_344
  let c3_i32_345 : BitVec 32 := 3#32
  let v1060 : BitVec 32 := Scalar.addi v1059 c3_i32_345
  let c0_i32_350 : BitVec 32 := 0#32
  ![0, v1060.toNat, 0]
def k0_off18 (v1063 : BitVec 32) : Fin 2 → Nat :=
  let c2_i32_347 : BitVec 32 := 2#32
  let v1064 : BitVec 32 := Scalar.shrui v1063 c2_i32_347
  let c0_i32_351 : BitVec 32 := 0#32
  ![v1064.toNat, 0]

def k0_off19 (k0_t1 : Fin k0_t1_loop.trips) : Fin 3 → Nat :=
  let c0_i32_353 : BitVec 32 := 0#32
  let c0_i32_301 : BitVec 32 := 0#32
  let c1_i32_303 : BitVec 32 := 1#32
  let arg10 : BitVec 32 := Scf.iv c0_i32_301 c1_i32_303 k0_t1
  let c8_i32_344 : BitVec 32 := 8#32
  let v1059 : BitVec 32 := Scalar.muli arg10 c8_i32_344
  let c3_i32_345 : BitVec 32 := 3#32
  let v1060 : BitVec 32 := Scalar.addi v1059 c3_i32_345
  let c0_i32_355 : BitVec 32 := 0#32
  ![0, v1060.toNat, 0]
def k0_off20 (v1063 : BitVec 32) : Fin 2 → Nat :=
  let c1_i32_352 : BitVec 32 := 1#32
  let v1070 : BitVec 32 := Scalar.shrui v1063 c1_i32_352
  let c0_i32_356 : BitVec 32 := 0#32
  ![v1070.toNat, 0]

def k0_chk4 (i : grid0.Coords) (v1063 : BitVec 32) : Prop :=
  (∀ (k0_h1 : k0_cond1 i = 1#1), ∀ a, (k0_off18 v1063) a + S1x2048.size a ≤ S16000x2048.size a) ∧
  (∀ (k0_h1 : k0_cond1 i = 1#1), ∀ a, (k0_off20 v1063) a + S1x128.size a ≤ S32000x128.size a)
theorem k0_off18_inb : ∀ (i : grid0.Coords) (v1063 : BitVec 32) (k0_hw4 : k0_chk4 i v1063), ∀ (k0_h1 : k0_cond1 i = 1#1), ∀ a, (k0_off18 v1063) a + S1x2048.size a ≤ S16000x2048.size a := fun i v1063 k0_hw4 k0_h1 => k0_hw4.1 k0_h1
theorem k0_off20_inb : ∀ (i : grid0.Coords) (v1063 : BitVec 32) (k0_hw4 : k0_chk4 i v1063), ∀ (k0_h1 : k0_cond1 i = 1#1), ∀ a, (k0_off20 v1063) a + S1x128.size a ≤ S32000x128.size a := fun i v1063 k0_hw4 k0_h1 => k0_hw4.2 k0_h1

def k0_off21 (k0_t1 : Fin k0_t1_loop.trips) : Fin 1 → Nat :=
  let c0_i32_359 : BitVec 32 := 0#32
  let c0_i32_301 : BitVec 32 := 0#32
  let c1_i32_303 : BitVec 32 := 1#32
  let arg10 : BitVec 32 := Scf.iv c0_i32_301 c1_i32_303 k0_t1
  let c8_i32_357 : BitVec 32 := 8#32
  let v1076 : BitVec 32 := Scalar.muli arg10 c8_i32_357
  let c4_i32_358 : BitVec 32 := 4#32
  let v1077 : BitVec 32 := Scalar.addi v1076 c4_i32_358
  let v1078 : BitVec 32 := Scalar.addi c0_i32_359 v1077
  let v1079 : Index := Scalar.indexCast v1078
  ![v1079.toNat]
def k0_off22 (k0_t1 : Fin k0_t1_loop.trips) : Fin 3 → Nat :=
  let c0_i32_361 : BitVec 32 := 0#32
  let c0_i32_301 : BitVec 32 := 0#32
  let c1_i32_303 : BitVec 32 := 1#32
  let arg10 : BitVec 32 := Scf.iv c0_i32_301 c1_i32_303 k0_t1
  let c8_i32_357 : BitVec 32 := 8#32
  let v1076 : BitVec 32 := Scalar.muli arg10 c8_i32_357
  let c4_i32_358 : BitVec 32 := 4#32
  let v1077 : BitVec 32 := Scalar.addi v1076 c4_i32_358
  let c0_i32_363 : BitVec 32 := 0#32
  ![0, v1077.toNat, 0]
def k0_off23 (v1080 : BitVec 32) : Fin 2 → Nat :=
  let c2_i32_360 : BitVec 32 := 2#32
  let v1081 : BitVec 32 := Scalar.shrui v1080 c2_i32_360
  let c0_i32_364 : BitVec 32 := 0#32
  ![v1081.toNat, 0]

def k0_off24 (k0_t1 : Fin k0_t1_loop.trips) : Fin 3 → Nat :=
  let c0_i32_366 : BitVec 32 := 0#32
  let c0_i32_301 : BitVec 32 := 0#32
  let c1_i32_303 : BitVec 32 := 1#32
  let arg10 : BitVec 32 := Scf.iv c0_i32_301 c1_i32_303 k0_t1
  let c8_i32_357 : BitVec 32 := 8#32
  let v1076 : BitVec 32 := Scalar.muli arg10 c8_i32_357
  let c4_i32_358 : BitVec 32 := 4#32
  let v1077 : BitVec 32 := Scalar.addi v1076 c4_i32_358
  let c0_i32_368 : BitVec 32 := 0#32
  ![0, v1077.toNat, 0]
def k0_off25 (v1080 : BitVec 32) : Fin 2 → Nat :=
  let c1_i32_365 : BitVec 32 := 1#32
  let v1087 : BitVec 32 := Scalar.shrui v1080 c1_i32_365
  let c0_i32_369 : BitVec 32 := 0#32
  ![v1087.toNat, 0]

def k0_chk5 (i : grid0.Coords) (v1080 : BitVec 32) : Prop :=
  (∀ (k0_h1 : k0_cond1 i = 1#1), ∀ a, (k0_off23 v1080) a + S1x2048.size a ≤ S16000x2048.size a) ∧
  (∀ (k0_h1 : k0_cond1 i = 1#1), ∀ a, (k0_off25 v1080) a + S1x128.size a ≤ S32000x128.size a)
theorem k0_off23_inb : ∀ (i : grid0.Coords) (v1080 : BitVec 32) (k0_hw5 : k0_chk5 i v1080), ∀ (k0_h1 : k0_cond1 i = 1#1), ∀ a, (k0_off23 v1080) a + S1x2048.size a ≤ S16000x2048.size a := fun i v1080 k0_hw5 k0_h1 => k0_hw5.1 k0_h1
theorem k0_off25_inb : ∀ (i : grid0.Coords) (v1080 : BitVec 32) (k0_hw5 : k0_chk5 i v1080), ∀ (k0_h1 : k0_cond1 i = 1#1), ∀ a, (k0_off25 v1080) a + S1x128.size a ≤ S32000x128.size a := fun i v1080 k0_hw5 k0_h1 => k0_hw5.2 k0_h1

def k0_off26 (k0_t1 : Fin k0_t1_loop.trips) : Fin 1 → Nat :=
  let c0_i32_371 : BitVec 32 := 0#32
  let c0_i32_301 : BitVec 32 := 0#32
  let c1_i32_303 : BitVec 32 := 1#32
  let arg10 : BitVec 32 := Scf.iv c0_i32_301 c1_i32_303 k0_t1
  let c8_i32_370 : BitVec 32 := 8#32
  let v1093 : BitVec 32 := Scalar.muli arg10 c8_i32_370
  let c5_i32 : BitVec 32 := 5#32
  let v1094 : BitVec 32 := Scalar.addi v1093 c5_i32
  let v1095 : BitVec 32 := Scalar.addi c0_i32_371 v1094
  let v1096 : Index := Scalar.indexCast v1095
  ![v1096.toNat]
def k0_off27 (k0_t1 : Fin k0_t1_loop.trips) : Fin 3 → Nat :=
  let c0_i32_373 : BitVec 32 := 0#32
  let c0_i32_301 : BitVec 32 := 0#32
  let c1_i32_303 : BitVec 32 := 1#32
  let arg10 : BitVec 32 := Scf.iv c0_i32_301 c1_i32_303 k0_t1
  let c8_i32_370 : BitVec 32 := 8#32
  let v1093 : BitVec 32 := Scalar.muli arg10 c8_i32_370
  let c5_i32 : BitVec 32 := 5#32
  let v1094 : BitVec 32 := Scalar.addi v1093 c5_i32
  let c0_i32_375 : BitVec 32 := 0#32
  ![0, v1094.toNat, 0]
def k0_off28 (v1097 : BitVec 32) : Fin 2 → Nat :=
  let c2_i32_372 : BitVec 32 := 2#32
  let v1098 : BitVec 32 := Scalar.shrui v1097 c2_i32_372
  let c0_i32_376 : BitVec 32 := 0#32
  ![v1098.toNat, 0]

def k0_off29 (k0_t1 : Fin k0_t1_loop.trips) : Fin 3 → Nat :=
  let c0_i32_378 : BitVec 32 := 0#32
  let c0_i32_301 : BitVec 32 := 0#32
  let c1_i32_303 : BitVec 32 := 1#32
  let arg10 : BitVec 32 := Scf.iv c0_i32_301 c1_i32_303 k0_t1
  let c8_i32_370 : BitVec 32 := 8#32
  let v1093 : BitVec 32 := Scalar.muli arg10 c8_i32_370
  let c5_i32 : BitVec 32 := 5#32
  let v1094 : BitVec 32 := Scalar.addi v1093 c5_i32
  let c0_i32_380 : BitVec 32 := 0#32
  ![0, v1094.toNat, 0]
def k0_off30 (v1097 : BitVec 32) : Fin 2 → Nat :=
  let c1_i32_377 : BitVec 32 := 1#32
  let v1104 : BitVec 32 := Scalar.shrui v1097 c1_i32_377
  let c0_i32_381 : BitVec 32 := 0#32
  ![v1104.toNat, 0]

def k0_chk6 (i : grid0.Coords) (v1097 : BitVec 32) : Prop :=
  (∀ (k0_h1 : k0_cond1 i = 1#1), ∀ a, (k0_off28 v1097) a + S1x2048.size a ≤ S16000x2048.size a) ∧
  (∀ (k0_h1 : k0_cond1 i = 1#1), ∀ a, (k0_off30 v1097) a + S1x128.size a ≤ S32000x128.size a)
theorem k0_off28_inb : ∀ (i : grid0.Coords) (v1097 : BitVec 32) (k0_hw6 : k0_chk6 i v1097), ∀ (k0_h1 : k0_cond1 i = 1#1), ∀ a, (k0_off28 v1097) a + S1x2048.size a ≤ S16000x2048.size a := fun i v1097 k0_hw6 k0_h1 => k0_hw6.1 k0_h1
theorem k0_off30_inb : ∀ (i : grid0.Coords) (v1097 : BitVec 32) (k0_hw6 : k0_chk6 i v1097), ∀ (k0_h1 : k0_cond1 i = 1#1), ∀ a, (k0_off30 v1097) a + S1x128.size a ≤ S32000x128.size a := fun i v1097 k0_hw6 k0_h1 => k0_hw6.2 k0_h1

def k0_off31 (k0_t1 : Fin k0_t1_loop.trips) : Fin 1 → Nat :=
  let c0_i32_383 : BitVec 32 := 0#32
  let c0_i32_301 : BitVec 32 := 0#32
  let c1_i32_303 : BitVec 32 := 1#32
  let arg10 : BitVec 32 := Scf.iv c0_i32_301 c1_i32_303 k0_t1
  let c8_i32_382 : BitVec 32 := 8#32
  let v1110 : BitVec 32 := Scalar.muli arg10 c8_i32_382
  let c6_i32 : BitVec 32 := 6#32
  let v1111 : BitVec 32 := Scalar.addi v1110 c6_i32
  let v1112 : BitVec 32 := Scalar.addi c0_i32_383 v1111
  let v1113 : Index := Scalar.indexCast v1112
  ![v1113.toNat]
def k0_off32 (k0_t1 : Fin k0_t1_loop.trips) : Fin 3 → Nat :=
  let c0_i32_385 : BitVec 32 := 0#32
  let c0_i32_301 : BitVec 32 := 0#32
  let c1_i32_303 : BitVec 32 := 1#32
  let arg10 : BitVec 32 := Scf.iv c0_i32_301 c1_i32_303 k0_t1
  let c8_i32_382 : BitVec 32 := 8#32
  let v1110 : BitVec 32 := Scalar.muli arg10 c8_i32_382
  let c6_i32 : BitVec 32 := 6#32
  let v1111 : BitVec 32 := Scalar.addi v1110 c6_i32
  let c0_i32_387 : BitVec 32 := 0#32
  ![0, v1111.toNat, 0]
def k0_off33 (v1114 : BitVec 32) : Fin 2 → Nat :=
  let c2_i32_384 : BitVec 32 := 2#32
  let v1115 : BitVec 32 := Scalar.shrui v1114 c2_i32_384
  let c0_i32_388 : BitVec 32 := 0#32
  ![v1115.toNat, 0]

def k0_off34 (k0_t1 : Fin k0_t1_loop.trips) : Fin 3 → Nat :=
  let c0_i32_390 : BitVec 32 := 0#32
  let c0_i32_301 : BitVec 32 := 0#32
  let c1_i32_303 : BitVec 32 := 1#32
  let arg10 : BitVec 32 := Scf.iv c0_i32_301 c1_i32_303 k0_t1
  let c8_i32_382 : BitVec 32 := 8#32
  let v1110 : BitVec 32 := Scalar.muli arg10 c8_i32_382
  let c6_i32 : BitVec 32 := 6#32
  let v1111 : BitVec 32 := Scalar.addi v1110 c6_i32
  let c0_i32_392 : BitVec 32 := 0#32
  ![0, v1111.toNat, 0]
def k0_off35 (v1114 : BitVec 32) : Fin 2 → Nat :=
  let c1_i32_389 : BitVec 32 := 1#32
  let v1121 : BitVec 32 := Scalar.shrui v1114 c1_i32_389
  let c0_i32_393 : BitVec 32 := 0#32
  ![v1121.toNat, 0]

def k0_chk7 (i : grid0.Coords) (v1114 : BitVec 32) : Prop :=
  (∀ (k0_h1 : k0_cond1 i = 1#1), ∀ a, (k0_off33 v1114) a + S1x2048.size a ≤ S16000x2048.size a) ∧
  (∀ (k0_h1 : k0_cond1 i = 1#1), ∀ a, (k0_off35 v1114) a + S1x128.size a ≤ S32000x128.size a)
theorem k0_off33_inb : ∀ (i : grid0.Coords) (v1114 : BitVec 32) (k0_hw7 : k0_chk7 i v1114), ∀ (k0_h1 : k0_cond1 i = 1#1), ∀ a, (k0_off33 v1114) a + S1x2048.size a ≤ S16000x2048.size a := fun i v1114 k0_hw7 k0_h1 => k0_hw7.1 k0_h1
theorem k0_off35_inb : ∀ (i : grid0.Coords) (v1114 : BitVec 32) (k0_hw7 : k0_chk7 i v1114), ∀ (k0_h1 : k0_cond1 i = 1#1), ∀ a, (k0_off35 v1114) a + S1x128.size a ≤ S32000x128.size a := fun i v1114 k0_hw7 k0_h1 => k0_hw7.2 k0_h1

def k0_off36 (k0_t1 : Fin k0_t1_loop.trips) : Fin 1 → Nat :=
  let c0_i32_395 : BitVec 32 := 0#32
  let c0_i32_301 : BitVec 32 := 0#32
  let c1_i32_303 : BitVec 32 := 1#32
  let arg10 : BitVec 32 := Scf.iv c0_i32_301 c1_i32_303 k0_t1
  let c8_i32_394 : BitVec 32 := 8#32
  let v1127 : BitVec 32 := Scalar.muli arg10 c8_i32_394
  let c7_i32 : BitVec 32 := 7#32
  let v1128 : BitVec 32 := Scalar.addi v1127 c7_i32
  let v1129 : BitVec 32 := Scalar.addi c0_i32_395 v1128
  let v1130 : Index := Scalar.indexCast v1129
  ![v1130.toNat]
def k0_off37 (k0_t1 : Fin k0_t1_loop.trips) : Fin 3 → Nat :=
  let c0_i32_397 : BitVec 32 := 0#32
  let c0_i32_301 : BitVec 32 := 0#32
  let c1_i32_303 : BitVec 32 := 1#32
  let arg10 : BitVec 32 := Scf.iv c0_i32_301 c1_i32_303 k0_t1
  let c8_i32_394 : BitVec 32 := 8#32
  let v1127 : BitVec 32 := Scalar.muli arg10 c8_i32_394
  let c7_i32 : BitVec 32 := 7#32
  let v1128 : BitVec 32 := Scalar.addi v1127 c7_i32
  let c0_i32_399 : BitVec 32 := 0#32
  ![0, v1128.toNat, 0]
def k0_off38 (v1131 : BitVec 32) : Fin 2 → Nat :=
  let c2_i32_396 : BitVec 32 := 2#32
  let v1132 : BitVec 32 := Scalar.shrui v1131 c2_i32_396
  let c0_i32_400 : BitVec 32 := 0#32
  ![v1132.toNat, 0]

def k0_off39 (k0_t1 : Fin k0_t1_loop.trips) : Fin 3 → Nat :=
  let c0_i32_402 : BitVec 32 := 0#32
  let c0_i32_301 : BitVec 32 := 0#32
  let c1_i32_303 : BitVec 32 := 1#32
  let arg10 : BitVec 32 := Scf.iv c0_i32_301 c1_i32_303 k0_t1
  let c8_i32_394 : BitVec 32 := 8#32
  let v1127 : BitVec 32 := Scalar.muli arg10 c8_i32_394
  let c7_i32 : BitVec 32 := 7#32
  let v1128 : BitVec 32 := Scalar.addi v1127 c7_i32
  let c0_i32_404 : BitVec 32 := 0#32
  ![0, v1128.toNat, 0]
def k0_off40 (v1131 : BitVec 32) : Fin 2 → Nat :=
  let c1_i32_401 : BitVec 32 := 1#32
  let v1138 : BitVec 32 := Scalar.shrui v1131 c1_i32_401
  let c0_i32_405 : BitVec 32 := 0#32
  ![v1138.toNat, 0]

def k0_chk8 (i : grid0.Coords) (v1131 : BitVec 32) : Prop :=
  (∀ (k0_h1 : k0_cond1 i = 1#1), ∀ a, (k0_off38 v1131) a + S1x2048.size a ≤ S16000x2048.size a) ∧
  (∀ (k0_h1 : k0_cond1 i = 1#1), ∀ a, (k0_off40 v1131) a + S1x128.size a ≤ S32000x128.size a)
theorem k0_off38_inb : ∀ (i : grid0.Coords) (v1131 : BitVec 32) (k0_hw8 : k0_chk8 i v1131), ∀ (k0_h1 : k0_cond1 i = 1#1), ∀ a, (k0_off38 v1131) a + S1x2048.size a ≤ S16000x2048.size a := fun i v1131 k0_hw8 k0_h1 => k0_hw8.1 k0_h1
theorem k0_off40_inb : ∀ (i : grid0.Coords) (v1131 : BitVec 32) (k0_hw8 : k0_chk8 i v1131), ∀ (k0_h1 : k0_cond1 i = 1#1), ∀ a, (k0_off40 v1131) a + S1x128.size a ≤ S32000x128.size a := fun i v1131 k0_hw8 k0_h1 => k0_hw8.2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_303 : BitVec 32 := 0#32
  let c16_i32_304 : BitVec 32 := 16#32
  let v1009 : BitVec 32 := Scalar.addi c0_i32_303 c16_i32_304
  let c1_i32_305 : BitVec 32 := 1#32
  ⟨c0_i32_303, v1009, c1_i32_305⟩
def k0_off41 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_309 : BitVec 32 := 128#32
  let v1012 : BitVec 32 := Scalar.muli v1007 c128_i32_309
  let c0_i32_303 : BitVec 32 := 0#32
  let c1_i32_305 : BitVec 32 := 1#32
  let arg10 : BitVec 32 := Scf.iv c0_i32_303 c1_i32_305 k0_t2
  let c8_i32_307 : BitVec 32 := 8#32
  let v1010 : BitVec 32 := Scalar.muli arg10 c8_i32_307
  let c0_i32_308 : BitVec 32 := 0#32
  let v1011 : BitVec 32 := Scalar.addi v1010 c0_i32_308
  let v1013 : BitVec 32 := Scalar.addi v1012 v1011
  let v1014 : Index := Scalar.indexCast v1013
  ![v1014.toNat]
def k0_off42 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off43 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_307 : BitVec 32 := 8#32
  let v1010 : BitVec 32 := Scalar.muli arg10 c8_i32_307
  let c0_i32_308 : BitVec 32 := 0#32
  let v1011 : BitVec 32 := Scalar.addi v1010 c0_i32_308
  let c0_i32_311 : BitVec 32 := 0#32
  ![v1008.toNat, v1011.toNat, 0]
def k0_off44 (v1015 : BitVec 32) : Fin 2 → Nat :=
  let c2_i32_310 : BitVec 32 := 2#32
  let v1016 : BitVec 32 := Scalar.shrui v1015 c2_i32_310
  let c0_i32_312 : BitVec 32 := 0#32
  ![v1016.toNat, 0]

def k0_off45 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off46 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_307 : BitVec 32 := 8#32
  let v1010 : BitVec 32 := Scalar.muli arg10 c8_i32_307
  let c0_i32_308 : BitVec 32 := 0#32
  let v1011 : BitVec 32 := Scalar.addi v1010 c0_i32_308
  let c0_i32_314 : BitVec 32 := 0#32
  ![v1008.toNat, v1011.toNat, 0]
def k0_off47 (v1015 : BitVec 32) : Fin 2 → Nat :=
  let c1_i32_313 : BitVec 32 := 1#32
  let v1022 : BitVec 32 := Scalar.shrui v1015 c1_i32_313
  let c0_i32_315 : BitVec 32 := 0#32
  ![v1022.toNat, 0]

def k0_chk9 (i : grid0.Coords) (v1015 : BitVec 32) : Prop :=
  (∀ (k0_h2 : k0_cond2 i = 1#1), ∀ a, (k0_off44 v1015) a + S1x2048.size a ≤ S16000x2048.size a) ∧
  (∀ (k0_h2 : k0_cond2 i = 1#1), ∀ a, (k0_off47 v1015) a + S1x128.size a ≤ S32000x128.size a)
theorem k0_off44_inb : ∀ (i : grid0.Coords) (v1015 : BitVec 32) (k0_hw9 : k0_chk9 i v1015), ∀ (k0_h2 : k0_cond2 i = 1#1), ∀ a, (k0_off44 v1015) a + S1x2048.size a ≤ S16000x2048.size a := fun i v1015 k0_hw9 k0_h2 => k0_hw9.1 k0_h2
theorem k0_off47_inb : ∀ (i : grid0.Coords) (v1015 : BitVec 32) (k0_hw9 : k0_chk9 i v1015), ∀ (k0_h2 : k0_cond2 i = 1#1), ∀ a, (k0_off47 v1015) a + S1x128.size a ≤ S32000x128.size a := fun i v1015 k0_hw9 k0_h2 => k0_hw9.2 k0_h2

def k0_off48 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_318 : BitVec 32 := 128#32
  let v1030 : BitVec 32 := Scalar.muli v1007 c128_i32_318
  let c0_i32_303 : BitVec 32 := 0#32
  let c1_i32_305 : BitVec 32 := 1#32
  let arg10 : BitVec 32 := Scf.iv c0_i32_303 c1_i32_305 k0_t2
  let c8_i32_316 : BitVec 32 := 8#32
  let v1028 : BitVec 32 := Scalar.muli arg10 c8_i32_316
  let c1_i32_317 : BitVec 32 := 1#32
  let v1029 : BitVec 32 := Scalar.addi v1028 c1_i32_317
  let v1031 : BitVec 32 := Scalar.addi v1030 v1029
  let v1032 : Index := Scalar.indexCast v1031
  ![v1032.toNat]
def k0_off49 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_316 : BitVec 32 := 8#32
  let v1028 : BitVec 32 := Scalar.muli arg10 c8_i32_316
  let c1_i32_317 : BitVec 32 := 1#32
  let v1029 : BitVec 32 := Scalar.addi v1028 c1_i32_317
  let c0_i32_320 : BitVec 32 := 0#32
  ![v1008.toNat, v1029.toNat, 0]
def k0_off50 (v1033 : BitVec 32) : Fin 2 → Nat :=
  let c2_i32_319 : BitVec 32 := 2#32
  let v1034 : BitVec 32 := Scalar.shrui v1033 c2_i32_319
  let c0_i32_321 : BitVec 32 := 0#32
  ![v1034.toNat, 0]

def k0_off51 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off52 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_316 : BitVec 32 := 8#32
  let v1028 : BitVec 32 := Scalar.muli arg10 c8_i32_316
  let c1_i32_317 : BitVec 32 := 1#32
  let v1029 : BitVec 32 := Scalar.addi v1028 c1_i32_317
  let c0_i32_323 : BitVec 32 := 0#32
  ![v1008.toNat, v1029.toNat, 0]
def k0_off53 (v1033 : BitVec 32) : Fin 2 → Nat :=
  let c1_i32_322 : BitVec 32 := 1#32
  let v1040 : BitVec 32 := Scalar.shrui v1033 c1_i32_322
  let c0_i32_324 : BitVec 32 := 0#32
  ![v1040.toNat, 0]

def k0_chk10 (i : grid0.Coords) (v1033 : BitVec 32) : Prop :=
  (∀ (k0_h2 : k0_cond2 i = 1#1), ∀ a, (k0_off50 v1033) a + S1x2048.size a ≤ S16000x2048.size a) ∧
  (∀ (k0_h2 : k0_cond2 i = 1#1), ∀ a, (k0_off53 v1033) a + S1x128.size a ≤ S32000x128.size a)
theorem k0_off50_inb : ∀ (i : grid0.Coords) (v1033 : BitVec 32) (k0_hw10 : k0_chk10 i v1033), ∀ (k0_h2 : k0_cond2 i = 1#1), ∀ a, (k0_off50 v1033) a + S1x2048.size a ≤ S16000x2048.size a := fun i v1033 k0_hw10 k0_h2 => k0_hw10.1 k0_h2
theorem k0_off53_inb : ∀ (i : grid0.Coords) (v1033 : BitVec 32) (k0_hw10 : k0_chk10 i v1033), ∀ (k0_h2 : k0_cond2 i = 1#1), ∀ a, (k0_off53 v1033) a + S1x128.size a ≤ S32000x128.size a := fun i v1033 k0_hw10 k0_h2 => k0_hw10.2 k0_h2

def k0_off54 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_327 : BitVec 32 := 128#32
  let v1048 : BitVec 32 := Scalar.muli v1007 c128_i32_327
  let c0_i32_303 : BitVec 32 := 0#32
  let c1_i32_305 : BitVec 32 := 1#32
  let arg10 : BitVec 32 := Scf.iv c0_i32_303 c1_i32_305 k0_t2
  let c8_i32_325 : BitVec 32 := 8#32
  let v1046 : BitVec 32 := Scalar.muli arg10 c8_i32_325
  let c2_i32_326 : BitVec 32 := 2#32
  let v1047 : BitVec 32 := Scalar.addi v1046 c2_i32_326
  let v1049 : BitVec 32 := Scalar.addi v1048 v1047
  let v1050 : Index := Scalar.indexCast v1049
  ![v1050.toNat]
def k0_off55 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_325 : BitVec 32 := 8#32
  let v1046 : BitVec 32 := Scalar.muli arg10 c8_i32_325
  let c2_i32_326 : BitVec 32 := 2#32
  let v1047 : BitVec 32 := Scalar.addi v1046 c2_i32_326
  let c0_i32_329 : BitVec 32 := 0#32
  ![v1008.toNat, v1047.toNat, 0]
def k0_off56 (v1051 : BitVec 32) : Fin 2 → Nat :=
  let c2_i32_328 : BitVec 32 := 2#32
  let v1052 : BitVec 32 := Scalar.shrui v1051 c2_i32_328
  let c0_i32_330 : BitVec 32 := 0#32
  ![v1052.toNat, 0]

def k0_off57 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off58 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_325 : BitVec 32 := 8#32
  let v1046 : BitVec 32 := Scalar.muli arg10 c8_i32_325
  let c2_i32_326 : BitVec 32 := 2#32
  let v1047 : BitVec 32 := Scalar.addi v1046 c2_i32_326
  let c0_i32_332 : BitVec 32 := 0#32
  ![v1008.toNat, v1047.toNat, 0]
def k0_off59 (v1051 : BitVec 32) : Fin 2 → Nat :=
  let c1_i32_331 : BitVec 32 := 1#32
  let v1058 : BitVec 32 := Scalar.shrui v1051 c1_i32_331
  let c0_i32_333 : BitVec 32 := 0#32
  ![v1058.toNat, 0]

def k0_chk11 (i : grid0.Coords) (v1051 : BitVec 32) : Prop :=
  (∀ (k0_h2 : k0_cond2 i = 1#1), ∀ a, (k0_off56 v1051) a + S1x2048.size a ≤ S16000x2048.size a) ∧
  (∀ (k0_h2 : k0_cond2 i = 1#1), ∀ a, (k0_off59 v1051) a + S1x128.size a ≤ S32000x128.size a)
theorem k0_off56_inb : ∀ (i : grid0.Coords) (v1051 : BitVec 32) (k0_hw11 : k0_chk11 i v1051), ∀ (k0_h2 : k0_cond2 i = 1#1), ∀ a, (k0_off56 v1051) a + S1x2048.size a ≤ S16000x2048.size a := fun i v1051 k0_hw11 k0_h2 => k0_hw11.1 k0_h2
theorem k0_off59_inb : ∀ (i : grid0.Coords) (v1051 : BitVec 32) (k0_hw11 : k0_chk11 i v1051), ∀ (k0_h2 : k0_cond2 i = 1#1), ∀ a, (k0_off59 v1051) a + S1x128.size a ≤ S32000x128.size a := fun i v1051 k0_hw11 k0_h2 => k0_hw11.2 k0_h2

def k0_off60 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_336 : BitVec 32 := 128#32
  let v1066 : BitVec 32 := Scalar.muli v1007 c128_i32_336
  let c0_i32_303 : BitVec 32 := 0#32
  let c1_i32_305 : BitVec 32 := 1#32
  let arg10 : BitVec 32 := Scf.iv c0_i32_303 c1_i32_305 k0_t2
  let c8_i32_334 : BitVec 32 := 8#32
  let v1064 : BitVec 32 := Scalar.muli arg10 c8_i32_334
  let c3_i32_335 : BitVec 32 := 3#32
  let v1065 : BitVec 32 := Scalar.addi v1064 c3_i32_335
  let v1067 : BitVec 32 := Scalar.addi v1066 v1065
  let v1068 : Index := Scalar.indexCast v1067
  ![v1068.toNat]
def k0_off61 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_334 : BitVec 32 := 8#32
  let v1064 : BitVec 32 := Scalar.muli arg10 c8_i32_334
  let c3_i32_335 : BitVec 32 := 3#32
  let v1065 : BitVec 32 := Scalar.addi v1064 c3_i32_335
  let c0_i32_338 : BitVec 32 := 0#32
  ![v1008.toNat, v1065.toNat, 0]
def k0_off62 (v1069 : BitVec 32) : Fin 2 → Nat :=
  let c2_i32_337 : BitVec 32 := 2#32
  let v1070 : BitVec 32 := Scalar.shrui v1069 c2_i32_337
  let c0_i32_339 : BitVec 32 := 0#32
  ![v1070.toNat, 0]

def k0_off63 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off64 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_334 : BitVec 32 := 8#32
  let v1064 : BitVec 32 := Scalar.muli arg10 c8_i32_334
  let c3_i32_335 : BitVec 32 := 3#32
  let v1065 : BitVec 32 := Scalar.addi v1064 c3_i32_335
  let c0_i32_341 : BitVec 32 := 0#32
  ![v1008.toNat, v1065.toNat, 0]
def k0_off65 (v1069 : BitVec 32) : Fin 2 → Nat :=
  let c1_i32_340 : BitVec 32 := 1#32
  let v1076 : BitVec 32 := Scalar.shrui v1069 c1_i32_340
  let c0_i32_342 : BitVec 32 := 0#32
  ![v1076.toNat, 0]

def k0_chk12 (i : grid0.Coords) (v1069 : BitVec 32) : Prop :=
  (∀ (k0_h2 : k0_cond2 i = 1#1), ∀ a, (k0_off62 v1069) a + S1x2048.size a ≤ S16000x2048.size a) ∧
  (∀ (k0_h2 : k0_cond2 i = 1#1), ∀ a, (k0_off65 v1069) a + S1x128.size a ≤ S32000x128.size a)
theorem k0_off62_inb : ∀ (i : grid0.Coords) (v1069 : BitVec 32) (k0_hw12 : k0_chk12 i v1069), ∀ (k0_h2 : k0_cond2 i = 1#1), ∀ a, (k0_off62 v1069) a + S1x2048.size a ≤ S16000x2048.size a := fun i v1069 k0_hw12 k0_h2 => k0_hw12.1 k0_h2
theorem k0_off65_inb : ∀ (i : grid0.Coords) (v1069 : BitVec 32) (k0_hw12 : k0_chk12 i v1069), ∀ (k0_h2 : k0_cond2 i = 1#1), ∀ a, (k0_off65 v1069) a + S1x128.size a ≤ S32000x128.size a := fun i v1069 k0_hw12 k0_h2 => k0_hw12.2 k0_h2

def k0_off66 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_345 : BitVec 32 := 128#32
  let v1084 : BitVec 32 := Scalar.muli v1007 c128_i32_345
  let c0_i32_303 : BitVec 32 := 0#32
  let c1_i32_305 : BitVec 32 := 1#32
  let arg10 : BitVec 32 := Scf.iv c0_i32_303 c1_i32_305 k0_t2
  let c8_i32_343 : BitVec 32 := 8#32
  let v1082 : BitVec 32 := Scalar.muli arg10 c8_i32_343
  let c4_i32_344 : BitVec 32 := 4#32
  let v1083 : BitVec 32 := Scalar.addi v1082 c4_i32_344
  let v1085 : BitVec 32 := Scalar.addi v1084 v1083
  let v1086 : Index := Scalar.indexCast v1085
  ![v1086.toNat]
def k0_off67 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_343 : BitVec 32 := 8#32
  let v1082 : BitVec 32 := Scalar.muli arg10 c8_i32_343
  let c4_i32_344 : BitVec 32 := 4#32
  let v1083 : BitVec 32 := Scalar.addi v1082 c4_i32_344
  let c0_i32_347 : BitVec 32 := 0#32
  ![v1008.toNat, v1083.toNat, 0]
def k0_off68 (v1087 : BitVec 32) : Fin 2 → Nat :=
  let c2_i32_346 : BitVec 32 := 2#32
  let v1088 : BitVec 32 := Scalar.shrui v1087 c2_i32_346
  let c0_i32_348 : BitVec 32 := 0#32
  ![v1088.toNat, 0]

def k0_off69 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off70 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_343 : BitVec 32 := 8#32
  let v1082 : BitVec 32 := Scalar.muli arg10 c8_i32_343
  let c4_i32_344 : BitVec 32 := 4#32
  let v1083 : BitVec 32 := Scalar.addi v1082 c4_i32_344
  let c0_i32_350 : BitVec 32 := 0#32
  ![v1008.toNat, v1083.toNat, 0]
def k0_off71 (v1087 : BitVec 32) : Fin 2 → Nat :=
  let c1_i32_349 : BitVec 32 := 1#32
  let v1094 : BitVec 32 := Scalar.shrui v1087 c1_i32_349
  let c0_i32_351 : BitVec 32 := 0#32
  ![v1094.toNat, 0]

def k0_chk13 (i : grid0.Coords) (v1087 : BitVec 32) : Prop :=
  (∀ (k0_h2 : k0_cond2 i = 1#1), ∀ a, (k0_off68 v1087) a + S1x2048.size a ≤ S16000x2048.size a) ∧
  (∀ (k0_h2 : k0_cond2 i = 1#1), ∀ a, (k0_off71 v1087) a + S1x128.size a ≤ S32000x128.size a)
theorem k0_off68_inb : ∀ (i : grid0.Coords) (v1087 : BitVec 32) (k0_hw13 : k0_chk13 i v1087), ∀ (k0_h2 : k0_cond2 i = 1#1), ∀ a, (k0_off68 v1087) a + S1x2048.size a ≤ S16000x2048.size a := fun i v1087 k0_hw13 k0_h2 => k0_hw13.1 k0_h2
theorem k0_off71_inb : ∀ (i : grid0.Coords) (v1087 : BitVec 32) (k0_hw13 : k0_chk13 i v1087), ∀ (k0_h2 : k0_cond2 i = 1#1), ∀ a, (k0_off71 v1087) a + S1x128.size a ≤ S32000x128.size a := fun i v1087 k0_hw13 k0_h2 => k0_hw13.2 k0_h2

def k0_off72 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_353 : BitVec 32 := 128#32
  let v1102 : BitVec 32 := Scalar.muli v1007 c128_i32_353
  let c0_i32_303 : BitVec 32 := 0#32
  let c1_i32_305 : BitVec 32 := 1#32
  let arg10 : BitVec 32 := Scf.iv c0_i32_303 c1_i32_305 k0_t2
  let c8_i32_352 : BitVec 32 := 8#32
  let v1100 : BitVec 32 := Scalar.muli arg10 c8_i32_352
  let c5_i32 : BitVec 32 := 5#32
  let v1101 : BitVec 32 := Scalar.addi v1100 c5_i32
  let v1103 : BitVec 32 := Scalar.addi v1102 v1101
  let v1104 : Index := Scalar.indexCast v1103
  ![v1104.toNat]
def k0_off73 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_352 : BitVec 32 := 8#32
  let v1100 : BitVec 32 := Scalar.muli arg10 c8_i32_352
  let c5_i32 : BitVec 32 := 5#32
  let v1101 : BitVec 32 := Scalar.addi v1100 c5_i32
  let c0_i32_355 : BitVec 32 := 0#32
  ![v1008.toNat, v1101.toNat, 0]
def k0_off74 (v1105 : BitVec 32) : Fin 2 → Nat :=
  let c2_i32_354 : BitVec 32 := 2#32
  let v1106 : BitVec 32 := Scalar.shrui v1105 c2_i32_354
  let c0_i32_356 : BitVec 32 := 0#32
  ![v1106.toNat, 0]

def k0_off75 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off76 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_352 : BitVec 32 := 8#32
  let v1100 : BitVec 32 := Scalar.muli arg10 c8_i32_352
  let c5_i32 : BitVec 32 := 5#32
  let v1101 : BitVec 32 := Scalar.addi v1100 c5_i32
  let c0_i32_358 : BitVec 32 := 0#32
  ![v1008.toNat, v1101.toNat, 0]
def k0_off77 (v1105 : BitVec 32) : Fin 2 → Nat :=
  let c1_i32_357 : BitVec 32 := 1#32
  let v1112 : BitVec 32 := Scalar.shrui v1105 c1_i32_357
  let c0_i32_359 : BitVec 32 := 0#32
  ![v1112.toNat, 0]

def k0_chk14 (i : grid0.Coords) (v1105 : BitVec 32) : Prop :=
  (∀ (k0_h2 : k0_cond2 i = 1#1), ∀ a, (k0_off74 v1105) a + S1x2048.size a ≤ S16000x2048.size a) ∧
  (∀ (k0_h2 : k0_cond2 i = 1#1), ∀ a, (k0_off77 v1105) a + S1x128.size a ≤ S32000x128.size a)
theorem k0_off74_inb : ∀ (i : grid0.Coords) (v1105 : BitVec 32) (k0_hw14 : k0_chk14 i v1105), ∀ (k0_h2 : k0_cond2 i = 1#1), ∀ a, (k0_off74 v1105) a + S1x2048.size a ≤ S16000x2048.size a := fun i v1105 k0_hw14 k0_h2 => k0_hw14.1 k0_h2
theorem k0_off77_inb : ∀ (i : grid0.Coords) (v1105 : BitVec 32) (k0_hw14 : k0_chk14 i v1105), ∀ (k0_h2 : k0_cond2 i = 1#1), ∀ a, (k0_off77 v1105) a + S1x128.size a ≤ S32000x128.size a := fun i v1105 k0_hw14 k0_h2 => k0_hw14.2 k0_h2

def k0_off78 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_361 : BitVec 32 := 128#32
  let v1120 : BitVec 32 := Scalar.muli v1007 c128_i32_361
  let c0_i32_303 : BitVec 32 := 0#32
  let c1_i32_305 : BitVec 32 := 1#32
  let arg10 : BitVec 32 := Scf.iv c0_i32_303 c1_i32_305 k0_t2
  let c8_i32_360 : BitVec 32 := 8#32
  let v1118 : BitVec 32 := Scalar.muli arg10 c8_i32_360
  let c6_i32 : BitVec 32 := 6#32
  let v1119 : BitVec 32 := Scalar.addi v1118 c6_i32
  let v1121 : BitVec 32 := Scalar.addi v1120 v1119
  let v1122 : Index := Scalar.indexCast v1121
  ![v1122.toNat]
def k0_off79 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_360 : BitVec 32 := 8#32
  let v1118 : BitVec 32 := Scalar.muli arg10 c8_i32_360
  let c6_i32 : BitVec 32 := 6#32
  let v1119 : BitVec 32 := Scalar.addi v1118 c6_i32
  let c0_i32_363 : BitVec 32 := 0#32
  ![v1008.toNat, v1119.toNat, 0]
def k0_off80 (v1123 : BitVec 32) : Fin 2 → Nat :=
  let c2_i32_362 : BitVec 32 := 2#32
  let v1124 : BitVec 32 := Scalar.shrui v1123 c2_i32_362
  let c0_i32_364 : BitVec 32 := 0#32
  ![v1124.toNat, 0]

def k0_off81 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off82 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_360 : BitVec 32 := 8#32
  let v1118 : BitVec 32 := Scalar.muli arg10 c8_i32_360
  let c6_i32 : BitVec 32 := 6#32
  let v1119 : BitVec 32 := Scalar.addi v1118 c6_i32
  let c0_i32_366 : BitVec 32 := 0#32
  ![v1008.toNat, v1119.toNat, 0]
def k0_off83 (v1123 : BitVec 32) : Fin 2 → Nat :=
  let c1_i32_365 : BitVec 32 := 1#32
  let v1130 : BitVec 32 := Scalar.shrui v1123 c1_i32_365
  let c0_i32_367 : BitVec 32 := 0#32
  ![v1130.toNat, 0]

def k0_chk15 (i : grid0.Coords) (v1123 : BitVec 32) : Prop :=
  (∀ (k0_h2 : k0_cond2 i = 1#1), ∀ a, (k0_off80 v1123) a + S1x2048.size a ≤ S16000x2048.size a) ∧
  (∀ (k0_h2 : k0_cond2 i = 1#1), ∀ a, (k0_off83 v1123) a + S1x128.size a ≤ S32000x128.size a)
theorem k0_off80_inb : ∀ (i : grid0.Coords) (v1123 : BitVec 32) (k0_hw15 : k0_chk15 i v1123), ∀ (k0_h2 : k0_cond2 i = 1#1), ∀ a, (k0_off80 v1123) a + S1x2048.size a ≤ S16000x2048.size a := fun i v1123 k0_hw15 k0_h2 => k0_hw15.1 k0_h2
theorem k0_off83_inb : ∀ (i : grid0.Coords) (v1123 : BitVec 32) (k0_hw15 : k0_chk15 i v1123), ∀ (k0_h2 : k0_cond2 i = 1#1), ∀ a, (k0_off83 v1123) a + S1x128.size a ≤ S32000x128.size a := fun i v1123 k0_hw15 k0_h2 => k0_hw15.2 k0_h2

def k0_off84 (i : grid0.Coords) (k0_t2 : Fin k0_t2_loop.trips) : Fin 1 → Nat :=
  let arg0 : BitVec 32 := BitVec.ofNat 32 (i 0).val
  let c1_i32_301 : BitVec 32 := 1#32
  let v1007 : BitVec 32 := Scalar.addi arg0 c1_i32_301
  let c128_i32_369 : BitVec 32 := 128#32
  let v1138 : BitVec 32 := Scalar.muli v1007 c128_i32_369
  let c0_i32_303 : BitVec 32 := 0#32
  let c1_i32_305 : BitVec 32 := 1#32
  let arg10 : BitVec 32 := Scf.iv c0_i32_303 c1_i32_305 k0_t2
  let c8_i32_368 : BitVec 32 := 8#32
  let v1136 : BitVec 32 := Scalar.muli arg10 c8_i32_368
  let c7_i32 : BitVec 32 := 7#32
  let v1137 : BitVec 32 := Scalar.addi v1136 c7_i32
  let v1139 : BitVec 32 := Scalar.addi v1138 v1137
  let v1140 : Index := Scalar.indexCast v1139
  ![v1140.toNat]
def k0_off85 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_368 : BitVec 32 := 8#32
  let v1136 : BitVec 32 := Scalar.muli arg10 c8_i32_368
  let c7_i32 : BitVec 32 := 7#32
  let v1137 : BitVec 32 := Scalar.addi v1136 c7_i32
  let c0_i32_371 : BitVec 32 := 0#32
  ![v1008.toNat, v1137.toNat, 0]
def k0_off86 (v1141 : BitVec 32) : Fin 2 → Nat :=
  let c2_i32_370 : BitVec 32 := 2#32
  let v1142 : BitVec 32 := Scalar.shrui v1141 c2_i32_370
  let c0_i32_372 : BitVec 32 := 0#32
  ![v1142.toNat, 0]

def k0_off87 (i : grid0.Coords) : Fin 1 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  ![v1008.toNat]
def k0_off88 (i : grid0.Coords) (k0_t2 : Fin k0_t2_loop.trips) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v1008 : BitVec 32 := Scalar.subi c1_i32_302 v0
  let c0_i32_303 : BitVec 32 := 0#32
  let c1_i32_305 : BitVec 32 := 1#32
  let arg10 : BitVec 32 := Scf.iv c0_i32_303 c1_i32_305 k0_t2
  let c8_i32_368 : BitVec 32 := 8#32
  let v1136 : BitVec 32 := Scalar.muli arg10 c8_i32_368
  let c7_i32 : BitVec 32 := 7#32
  let v1137 : BitVec 32 := Scalar.addi v1136 c7_i32
  let c0_i32_374 : BitVec 32 := 0#32
  ![v1008.toNat, v1137.toNat, 0]
def k0_off89 (v1141 : BitVec 32) : Fin 2 → Nat :=
  let c1_i32_373 : BitVec 32 := 1#32
  let v1148 : BitVec 32 := Scalar.shrui v1141 c1_i32_373
  let c0_i32_375 : BitVec 32 := 0#32
  ![v1148.toNat, 0]

def k0_chk16 (i : grid0.Coords) (v1141 : BitVec 32) : Prop :=
  (∀ (k0_h2 : k0_cond2 i = 1#1), ∀ a, (k0_off86 v1141) a + S1x2048.size a ≤ S16000x2048.size a) ∧
  (∀ (k0_h2 : k0_cond2 i = 1#1), ∀ a, (k0_off89 v1141) a + S1x128.size a ≤ S32000x128.size a)
theorem k0_off86_inb : ∀ (i : grid0.Coords) (v1141 : BitVec 32) (k0_hw16 : k0_chk16 i v1141), ∀ (k0_h2 : k0_cond2 i = 1#1), ∀ a, (k0_off86 v1141) a + S1x2048.size a ≤ S16000x2048.size a := fun i v1141 k0_hw16 k0_h2 => k0_hw16.1 k0_h2
theorem k0_off89_inb : ∀ (i : grid0.Coords) (v1141 : BitVec 32) (k0_hw16 : k0_chk16 i v1141), ∀ (k0_h2 : k0_cond2 i = 1#1), ∀ a, (k0_off89 v1141) a + S1x128.size a ≤ S32000x128.size a := fun i v1141 k0_hw16 k0_h2 => k0_hw16.2 k0_h2

@[reducible] def k0_t3_loop : Scf.Loop 32 :=
  let c0_i32_2 : BitVec 32 := 0#32
  let c128_i32 : BitVec 32 := 128#32
  let v8 : BitVec 32 := Scalar.addi c0_i32_2 c128_i32
  let c1_i32_3 : BitVec 32 := 1#32
  ⟨c0_i32_2, v8, c1_i32_3⟩
def k0_off90 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off91 (i : grid0.Coords) (k0_t3 : Fin k0_t3_loop.trips) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c1_i32_3 : BitVec 32 := 1#32
  let arg10 : BitVec 32 := Scf.iv c0_i32_2 c1_i32_3 k0_t3
  let c0_i32_301 : BitVec 32 := 0#32
  ![v0.toNat, arg10.toNat, 0]
def k0_off92 (i : grid0.Coords) (k0_t3 : Fin k0_t3_loop.trips) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c1_i32_3 : BitVec 32 := 1#32
  let arg10 : BitVec 32 := Scf.iv c0_i32_2 c1_i32_3 k0_t3
  let c0_i32_304 : BitVec 32 := 0#32
  ![v0.toNat, arg10.toNat, 0]
def k0_off93 (i : grid0.Coords) : Fin 3 → Nat :=
  let arg0 : BitVec 32 := BitVec.ofNat 32 (i 0).val
  let c2_i32 : BitVec 32 := 2#32
  let v0 : BitVec 32 := Scalar.remsi arg0 c2_i32
  let v19 : Index := Scalar.indexCast v0
  let c0_8 : Index := 0#32
  let c0_9 : Index := 0#32
  ![v19.toNat, 0, 0]
def k0_off94 (i : grid0.Coords) : Fin 3 → Nat :=
  let arg0 : BitVec 32 := BitVec.ofNat 32 (i 0).val
  let c2_i32 : BitVec 32 := 2#32
  let v0 : BitVec 32 := Scalar.remsi arg0 c2_i32
  let v79 : Index := Scalar.indexCast v0
  let c0_19 : Index := 0#32
  let c0_20 : Index := 0#32
  ![v79.toNat, 0, 0]
def k0_off95 (i : grid0.Coords) : Fin 3 → Nat :=
  let arg0 : BitVec 32 := BitVec.ofNat 32 (i 0).val
  let c2_i32 : BitVec 32 := 2#32
  let v0 : BitVec 32 := Scalar.remsi arg0 c2_i32
  let v137 : Index := Scalar.indexCast v0
  let c0_37 : Index := 0#32
  let c128 : Index := 128#32
  ![v137.toNat, 0, 128]
def k0_off96 (i : grid0.Coords) : Fin 3 → Nat :=
  let arg0 : BitVec 32 := BitVec.ofNat 32 (i 0).val
  let c2_i32 : BitVec 32 := 2#32
  let v0 : BitVec 32 := Scalar.remsi arg0 c2_i32
  let v195 : Index := Scalar.indexCast v0
  let c0_55 : Index := 0#32
  let c256_56 : Index := 256#32
  ![v195.toNat, 0, 256]
def k0_off97 (i : grid0.Coords) : Fin 3 → Nat :=
  let arg0 : BitVec 32 := BitVec.ofNat 32 (i 0).val
  let c2_i32 : BitVec 32 := 2#32
  let v0 : BitVec 32 := Scalar.remsi arg0 c2_i32
  let v253 : Index := Scalar.indexCast v0
  let c0_74 : Index := 0#32
  let c384 : Index := 384#32
  ![v253.toNat, 0, 384]
def k0_off98 (i : grid0.Coords) : Fin 3 → Nat :=
  let arg0 : BitVec 32 := BitVec.ofNat 32 (i 0).val
  let c2_i32 : BitVec 32 := 2#32
  let v0 : BitVec 32 := Scalar.remsi arg0 c2_i32
  let v311 : Index := Scalar.indexCast v0
  let c0_91 : Index := 0#32
  let c512_92 : Index := 512#32
  ![v311.toNat, 0, 512]
def k0_off99 (i : grid0.Coords) : Fin 3 → Nat :=
  let arg0 : BitVec 32 := BitVec.ofNat 32 (i 0).val
  let c2_i32 : BitVec 32 := 2#32
  let v0 : BitVec 32 := Scalar.remsi arg0 c2_i32
  let v369 : Index := Scalar.indexCast v0
  let c0_109 : Index := 0#32
  let c640 : Index := 640#32
  ![v369.toNat, 0, 640]
def k0_off100 (i : grid0.Coords) : Fin 3 → Nat :=
  let arg0 : BitVec 32 := BitVec.ofNat 32 (i 0).val
  let c2_i32 : BitVec 32 := 2#32
  let v0 : BitVec 32 := Scalar.remsi arg0 c2_i32
  let v427 : Index := Scalar.indexCast v0
  let c0_126 : Index := 0#32
  let c768_127 : Index := 768#32
  ![v427.toNat, 0, 768]
def k0_off101 (i : grid0.Coords) : Fin 3 → Nat :=
  let arg0 : BitVec 32 := BitVec.ofNat 32 (i 0).val
  let c2_i32 : BitVec 32 := 2#32
  let v0 : BitVec 32 := Scalar.remsi arg0 c2_i32
  let v485 : Index := Scalar.indexCast v0
  let c0_144 : Index := 0#32
  let c896 : Index := 896#32
  ![v485.toNat, 0, 896]
def k0_off102 (i : grid0.Coords) : Fin 3 → Nat :=
  let arg0 : BitVec 32 := BitVec.ofNat 32 (i 0).val
  let c2_i32 : BitVec 32 := 2#32
  let v0 : BitVec 32 := Scalar.remsi arg0 c2_i32
  let v543 : Index := Scalar.indexCast v0
  let c0_161 : Index := 0#32
  let c1024_162 : Index := 1024#32
  ![v543.toNat, 0, 1024]
def k0_off103 (i : grid0.Coords) : Fin 3 → Nat :=
  let arg0 : BitVec 32 := BitVec.ofNat 32 (i 0).val
  let c2_i32 : BitVec 32 := 2#32
  let v0 : BitVec 32 := Scalar.remsi arg0 c2_i32
  let v601 : Index := Scalar.indexCast v0
  let c0_179 : Index := 0#32
  let c1152 : Index := 1152#32
  ![v601.toNat, 0, 1152]
def k0_off104 (i : grid0.Coords) : Fin 3 → Nat :=
  let arg0 : BitVec 32 := BitVec.ofNat 32 (i 0).val
  let c2_i32 : BitVec 32 := 2#32
  let v0 : BitVec 32 := Scalar.remsi arg0 c2_i32
  let v659 : Index := Scalar.indexCast v0
  let c0_196 : Index := 0#32
  let c1280_197 : Index := 1280#32
  ![v659.toNat, 0, 1280]
def k0_off105 (i : grid0.Coords) : Fin 3 → Nat :=
  let arg0 : BitVec 32 := BitVec.ofNat 32 (i 0).val
  let c2_i32 : BitVec 32 := 2#32
  let v0 : BitVec 32 := Scalar.remsi arg0 c2_i32
  let v717 : Index := Scalar.indexCast v0
  let c0_214 : Index := 0#32
  let c1408 : Index := 1408#32
  ![v717.toNat, 0, 1408]
def k0_off106 (i : grid0.Coords) : Fin 3 → Nat :=
  let arg0 : BitVec 32 := BitVec.ofNat 32 (i 0).val
  let c2_i32 : BitVec 32 := 2#32
  let v0 : BitVec 32 := Scalar.remsi arg0 c2_i32
  let v775 : Index := Scalar.indexCast v0
  let c0_231 : Index := 0#32
  let c1536_232 : Index := 1536#32
  ![v775.toNat, 0, 1536]
def k0_off107 (i : grid0.Coords) : Fin 3 → Nat :=
  let arg0 : BitVec 32 := BitVec.ofNat 32 (i 0).val
  let c2_i32 : BitVec 32 := 2#32
  let v0 : BitVec 32 := Scalar.remsi arg0 c2_i32
  let v833 : Index := Scalar.indexCast v0
  let c0_249 : Index := 0#32
  let c1664 : Index := 1664#32
  ![v833.toNat, 0, 1664]
def k0_off108 (i : grid0.Coords) : Fin 3 → Nat :=
  let arg0 : BitVec 32 := BitVec.ofNat 32 (i 0).val
  let c2_i32 : BitVec 32 := 2#32
  let v0 : BitVec 32 := Scalar.remsi arg0 c2_i32
  let v891 : Index := Scalar.indexCast v0
  let c0_266 : Index := 0#32
  let c1792_267 : Index := 1792#32
  ![v891.toNat, 0, 1792]
def k0_off109 (i : grid0.Coords) : Fin 3 → Nat :=
  let arg0 : BitVec 32 := BitVec.ofNat 32 (i 0).val
  let c2_i32 : BitVec 32 := 2#32
  let v0 : BitVec 32 := Scalar.remsi arg0 c2_i32
  let v949 : Index := Scalar.indexCast v0
  let c0_284 : Index := 0#32
  let c1920 : Index := 1920#32
  ![v949.toNat, 0, 1920]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x1024 : Shape := ⟨2, ![2, 1024]⟩
abbrev S64000x2048 : Shape := ⟨2, ![64000, 2048]⟩
abbrev S64000x128 : Shape := ⟨2, ![64000, 128]⟩
abbrev S2048 : Shape := ⟨1, ![2048]⟩
abbrev S_ : Shape := ⟨0, ![]⟩
abbrev S2048x1 : Shape := ⟨2, ![2048, 1]⟩
abbrev S2048x2048 : Shape := ⟨2, ![2048, 2048]⟩
abbrev S2048x128 : Shape := ⟨2, ![2048, 128]⟩
abbrev S2048x128x1 : Shape := ⟨3, ![2048, 128, 1]⟩
abbrev S2048x128x16 : Shape := ⟨3, ![2048, 128, 16]⟩
abbrev S2048x4096 : Shape := ⟨2, ![2048, 4096]⟩
abbrev S2048x2048x1 : Shape := ⟨3, ![2048, 2048, 1]⟩
abbrev S2048x2048x2 : Shape := ⟨3, ![2048, 2048, 2]⟩

abbrev nBuf : Space → Nat
  | .hbm => 26
  | .vmem => 3
  | .smem => 0
  | _ => 0

abbrev bufTy : (tb : Table) → Fin (tcTables nBuf tb) → BufTy
  | .hbm, ⟨0, _⟩ => ⟨S2x1024, .i32⟩
  | .hbm, ⟨1, _⟩ => ⟨S64000x2048, .i8⟩
  | .hbm, ⟨2, _⟩ => ⟨S64000x128, .i16⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x2048, .i8⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x128, .i16⟩
  | .hbm, ⟨22, _⟩ => ⟨S2048x128x1, .i16⟩
  | .hbm, ⟨23, _⟩ => ⟨S2048x128x16, .i16⟩
  | .hbm, ⟨24, _⟩ => ⟨S2048x2048, .i16⟩
  | .hbm, ⟨25, _⟩ => ⟨S2048x4096, .bf16⟩
  | .local _ .vmem, ⟨0, _⟩ => ⟨S2048x2048, .i8⟩
  | .local _ .vmem, ⟨1, _⟩ => ⟨S2048x2048, .i16⟩
  | .local _ .vmem, ⟨2, _⟩ => ⟨S2048x4096, .bf16⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.RowBatch.lean ====
/-
  A slot filled row by row: 128 transfers, one per row of a buffer slot, issued on one DMA semaphore and drained by 128
  waits of one row each. The sources are rows of one array, each read under a share token of its own, so that two
  transfers may read the same row. Everything here is over any program signature and any element values.
-/
module

public import Idealize.ShloMosaic.Lib.Batch
public import Idealize.ShloMosaic.Lib.Ring
public import Idealize.ShloMosaic.Lib.Tactic
public import Idealize.ShloMosaic.Lib.Pipeline.Frame

@[expose] public section

noncomputable section

namespace Cert.RowBatch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (Pipeline.UD sig nD τ) ℕ

variable (c : Thread nD τ) (sm : SemLoc sig) (N : ℕ) {ℓd ℓs : Loc nD τ sig}
  (dset : Fin 128 → Finset (Idx ℓd)) (sset : Fin 128 → Finset (Idx ℓs)) (q : PosShare TreeShare)
  (val : Buf Val ℓd) (fs : Buf Val ℓs)

/-- What transfer `t` delivers: row `t` of the slot at the values it was to receive, and the share token of the source row it read. -/
def deliv (t : Fin 128) : sProp 𝕄 :=
  iprop((ℓd ↦[dset t]{fullShare} val) ∗ (ℓs ↦[sset t]{Transfers.shareTok q 128 t} fs))

instance deliv_storable (t : Fin 128) : BI.Storable (upEmb : UEmb _ 𝕄) (deliv (Val := Val) dset sset q val fs t) := by
  unfold deliv; infer_instance

/-- What transfer `t` needs before it is issued: row `t` of the slot at any contents, and its token of the source row. -/
def todo (t : Fin 128) : sProp 𝕄 :=
  iprop((∃ f, ℓd ↦[dset t]{fullShare} f) ∗ (ℓs ↦[sset t]{Transfers.shareTok q 128 t} fs))

/-- `j` transfers issued and `u` units waited for. -/
def running (j u : ℕ) : sProp 𝕄 :=
  Transfers.Batch (countersEmb (U := Pipeline.UD sig nD τ)) c sm () N (deliv (Val := Val) dset sset q val fs) j u

/-- `j` transfers issued, the rows and tokens of the others still in hand. -/
def issuing (j : ℕ) : sProp 𝕄 :=
  iprop(running c sm N dset sset q val fs j 0 ∗ bigSep (Ring.rangeSet 128 j 128) (todo (Val := Val) dset sset q fs))

/-- The part of the source array no transfer reads: each token outside its row, and what is left of the share. -/
def rest : sProp 𝕄 :=
  iprop((bigSep Finset.univ fun t : Fin 128 => ℓs ↦[Finset.univ \ sset t]{Transfers.shareTok q 128 t} fs)
    ∗ (ℓs ↦{Transfers.shareDrop q 128} fs))

/-- Assertions that entail each other are equal. -/
theorem eq_of {P Q : sProp 𝕄} (h₁ : P ⊢ Q) (h₂ : Q ⊢ P) : P = Q := BI.equiv_iff.mp ⟨h₁, h₂⟩

/-- Elements held at given contents are held at some contents. -/
theorem some_contents {ℓ : Loc nD τ sig} {I : Finset (Idx ℓ)} {f : Buf Val ℓ} :
    (ℓ ↦[I]{fullShare} f : sProp 𝕄) ⊢ iprop(∃ f, ℓ ↦[I]{fullShare} f) := by
  iintro H; iexists f; iexact H

/-- A family of pairs is the family of the firsts and the family of the seconds. -/
theorem sep_apart (A B : Fin 128 → sProp 𝕄) :
    (bigSep Finset.univ fun t => iprop(A t ∗ B t)) = (iprop(bigSep Finset.univ A ∗ bigSep Finset.univ B) : sProp 𝕄) :=
  BI.bigSep_sep _ _ _

/-- The source array at share `q` is the 128 row tokens and the rest. -/
theorem source_split : (ℓs ↦{q} fs : sProp 𝕄)
    = iprop((bigSep Finset.univ fun t : Fin 128 => ℓs ↦[sset t]{Transfers.shareTok q 128 t} fs) ∗ rest sset q fs) := by
  have h1 : (ℓs ↦{q} fs : sProp 𝕄) = iprop((ℓs ↦{Transfers.shareDrop q 128} fs)
      ∗ bigSep Finset.univ (fun i : Fin 128 => ℓs ↦{Transfers.shareTok q 128 i} fs)) :=
    eq_of (Transfers.pointsTo_toks q 128).1 (Transfers.pointsTo_toks q 128).2
  have h2 : (fun i : Fin 128 => (ℓs ↦{Transfers.shareTok q 128 i} fs : sProp 𝕄))
      = fun i => iprop((ℓs ↦[sset i]{Transfers.shareTok q 128 i} fs) ∗ (ℓs ↦[Finset.univ \ sset i]{Transfers.shareTok q 128 i} fs)) := by
    funext i
    exact eq_of (pointsTo_split_subset (Finset.subset_univ (sset i))).1 (pointsTo_split_subset (Finset.subset_univ (sset i))).2
  rw [h1, h2, sep_apart]
  unfold rest
  refine eq_of ?_ ?_
  · iintro ⟨Hd, Hi, Ho⟩
    isplitl [Hi]; · iexact Hi
    isplitl [Ho]; · iexact Ho
    iexact Hd
  · iintro ⟨Hi, Ho, Hd⟩
    isplitl [Hd]; · iexact Hd
    isplitl [Hi]; · iexact Hi
    iexact Ho

/-- A slot whose rows are `dset`, at any contents, with its semaphore at zero and the source at share `q`, starts a batch. -/
theorem start {S : Finset (Idx ℓd)} (hd : ∀ b b' : Fin 128, b ≠ b' → Disjoint (dset b) (dset b')) (hS : Finset.univ.biUnion dset = S) :
    iprop(semVal (c, sm) 0 ∗ (∃ f, ℓd ↦[S]{fullShare} f) ∗ (ℓs ↦{q} fs))
      ⊢ (|={Set.univ}=> iprop(issuing c sm N dset sset q val fs 0 ∗ rest sset q fs) : sProp 𝕄) := by
  iintro ⟨Hv, ⟨%f, Hd⟩, Hs⟩
  imod (Transfers.batch_alloc' (Lvl := ℕ) (countersEmb (U := Pipeline.UD sig nD τ)) c () N
    (deliv (Val := Val) dset sset q val fs) (sm := sm) (E := Set.univ)) $$ Hv with HB
  ihave Hs' := (Entails.of_eq (source_split sset q fs)) $$ Hs
  icases Hs' with ⟨Ht, Hr⟩
  ihave Hd' := (Entails.of_eq (Ring.pointsTo_sub_blocks dset hd S hS f)) $$ Hd
  imodintro
  unfold issuing running
  rw [Ring.rangeSet_univ]
  isplitr [Hr]
  · isplitl [HB]; · iexact HB
    unfold todo
    rw [sep_apart]
    isplitl [Hd']
    · iapply (show (bigSep Finset.univ fun b => (ℓd ↦[dset b]{fullShare} f : sProp 𝕄))
          ⊢ bigSep Finset.univ fun b => iprop(∃ f, ℓd ↦[dset b]{fullShare} f) from
        BI.bigSep_mono fun b _ => some_contents) $$ Hd'
    · iexact Ht
  · iexact Hr

/-- The batch drained: the slot at the values it was to receive, the semaphore at zero, the source back at share `q`. -/
theorem finish {S : Finset (Idx ℓd)} (hN : 0 < N) (hd : ∀ b b' : Fin 128, b ≠ b' → Disjoint (dset b) (dset b'))
    (hS : Finset.univ.biUnion dset = S) :
    iprop(running c sm N dset sset q val fs 128 (N * 128) ∗ rest sset q fs)
      ⊢ (|={Set.univ}=> iprop(semVal (c, sm) 0 ∗ (ℓd ↦[S]{fullShare} val) ∗ (ℓs ↦{q} fs)) : sProp 𝕄) := by
  unfold running
  iintro ⟨HB, Hr⟩
  imod (Transfers.batch_collect' (Lvl := ℕ) (countersEmb (U := Pipeline.UD sig nD τ)) c hN) $$ HB with ⟨HD, Hv⟩
  imodintro
  isplitl [Hv]; · iexact Hv
  ihave HD' := (show (bigSep Finset.univ (deliv (Val := Val) dset sset q val fs) : sProp 𝕄)
      ⊢ iprop((bigSep Finset.univ fun t => ℓd ↦[dset t]{fullShare} val)
        ∗ (bigSep Finset.univ fun t : Fin 128 => ℓs ↦[sset t]{Transfers.shareTok q 128 t} fs)) from
    Entails.of_eq (BI.bigSep_sep _ _ _)) $$ HD
  icases HD' with ⟨Hd, Ht⟩
  isplitl [Hd]
  · iapply (Entails.of_eq (Ring.pointsTo_sub_blocks dset hd S hS val).symm) $$ Hd
  · iapply (Entails.of_eq (source_split sset q fs).symm)
    isplitl [Ht] <;> iassumption

/-- The next transfer's row and token taken off the ones still in hand. -/
theorem issuing_next {j : ℕ} (hj : j < 128) : issuing c sm N dset sset q val fs j
    = (iprop(running c sm N dset sset q val fs j 0 ∗ todo dset sset q fs ⟨j, hj⟩
        ∗ bigSep (Ring.rangeSet 128 (j + 1) 128) (todo (Val := Val) dset sset q fs)) : sProp 𝕄) := by
  unfold issuing; rw [Ring.bigSep_rangeSet_head hj hj]

/-- All 128 transfers issued: nothing is left in hand. -/
theorem issuing_all : issuing c sm N dset sset q val fs 128 ⊢ (running c sm N dset sset q val fs 128 0 : sProp 𝕄) := by
  unfold issuing; rw [Ring.bigSep_rangeSet_empty le_rfl]
  iintro ⟨H, -⟩; iexact H

end Cert.RowBatch

end
-- ==== Proof.KernelRows.lean ====
/-
  The kernel's two gathers, of code rows and of scale rows, as batches of 128 row transfers each: the rows of the two
  buffer slots, the source rows, what each slot holds once filled, and the rules for issuing and awaiting one row.
-/
module

public import proofs.«01_k».proof.Proof.RowBatch
public import proofs.«01_k».proof.Proof.Gen.Kernel.Launch
public import proofs.«01_k».proof.Proof.Gen.Kernel.Skeleton
public import proofs.«01_k».proof.Proof.Gen.Kernel.Loops
public import Idealize.ShloMosaic.Lib.Pipeline.ValueKit.Geometry

@[expose] public section

noncomputable section

namespace Cert.Kernel.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.RowBatch (deliv todo running issuing rest)

variable {F : FTy → Type} [FloatOps F]

local notation "𝕄" => MT nD τ sig Unit (Elt F) ℕ (Pipeline.UD sig nD τ) ℕ

/-! ## The buffers and their rows -/

/-- The ids table, the code words and the scale words the kernel reads; the two double-buffered scratches it fills. -/
abbrev tblM : Memref sig .tc .smem S2048 .i32 := Memref.whole main_v0
abbrev srcC : Memref sig .tc .hbm S16000x2048 .i32 := Memref.whole main_v3
abbrev srcS : Memref sig .tc .hbm S32000x128 .i32 := Memref.whole main_v6
abbrev bufC : Memref sig .tc .vmem S2x128x2048 .i32 := Memref.whole cc0_scratch0
abbrev bufS : Memref sig .tc .vmem S2x128x128 .i32 := Memref.whole cc0_scratch1

/-- Slot `s` of each scratch, and its row `t`. -/
def slotC (s : ℕ) : Finset S2x128x2048.Idx := Finset.univ.filter fun y => (y 0).val = s
def slotS (s : ℕ) : Finset S2x128x128.Idx := Finset.univ.filter fun y => (y 0).val = s
def rowC (s : ℕ) (t : Fin 128) : Finset S2x128x2048.Idx := Finset.univ.filter fun y => (y 0).val = s ∧ (y 1).val = t.val
def rowS (s : ℕ) (t : Fin 128) : Finset S2x128x128.Idx := Finset.univ.filter fun y => (y 0).val = s ∧ (y 1).val = t.val

/-- Row `r` of the code words and of the scale words. -/
def fromC (r : ℕ) : Finset S16000x2048.Idx := Finset.univ.filter fun y => (y 0).val = r
def fromS (r : ℕ) : Finset S32000x128.Idx := Finset.univ.filter fun y => (y 0).val = r

theorem rowC_disjoint (s : ℕ) : ∀ b b' : Fin 128, b ≠ b' → Disjoint (rowC s b) (rowC s b') := fun b b' hne => by
  rw [Finset.disjoint_left]; intro y hy hy'
  simp only [rowC, Finset.mem_filter] at hy hy'
  exact hne (Fin.ext (by omega))
theorem rowS_disjoint (s : ℕ) : ∀ b b' : Fin 128, b ≠ b' → Disjoint (rowS s b) (rowS s b') := fun b b' hne => by
  rw [Finset.disjoint_left]; intro y hy hy'
  simp only [rowS, Finset.mem_filter] at hy hy'
  exact hne (Fin.ext (by omega))
theorem rowC_cover (s : ℕ) : Finset.univ.biUnion (rowC s) = slotC s := by
  ext y
  simp only [rowC, slotC, Finset.mem_biUnion, Finset.mem_univ, Finset.mem_filter, true_and]
  exact ⟨fun ⟨_, h, _⟩ => h, fun h => ⟨⟨(y 1).val, (y 1).isLt⟩, h, rfl⟩⟩
theorem rowS_cover (s : ℕ) : Finset.univ.biUnion (rowS s) = slotS s := by
  ext y
  simp only [rowS, slotS, Finset.mem_biUnion, Finset.mem_univ, Finset.mem_filter, true_and]
  exact ⟨fun ⟨_, h, _⟩ => h, fun h => ⟨⟨(y 1).val, (y 1).isLt⟩, h, rfl⟩⟩

/-- A row of a slot, as the kernel spells a transfer's destination. -/
abbrev dstC (off : Fin S2x128x2048.rank → ℕ) (h : ∀ a, off a + S1x1x2048.size a ≤ S2x128x2048.size a) : Memref sig .tc .vmem S1x2048 .i32 :=
  (bufC.slice (Rect.unit (s := S2x128x2048) off S1x1x2048.size h) (fun _ => rfl)).squeeze S1x2048 squeezes_S1x1x2048_S1x2048
abbrev dstS (off : Fin S2x128x128.rank → ℕ) (h : ∀ a, off a + S1x1x128.size a ≤ S2x128x128.size a) : Memref sig .tc .vmem S1x128 .i32 :=
  (bufS.slice (Rect.unit (s := S2x128x128) off S1x1x128.size h) (fun _ => rfl)).squeeze S1x128 squeezes_S1x1x128_S1x128

theorem dstC_emb {off} (h) (x : S1x2048.Idx) (a : Fin 3) :
    ((dstC off h).view.emb x a : ℕ) = off a + ((Fin.cons ⟨0, Nat.one_pos⟩ x : S1x1x2048.Idx) a : ℕ) := by
  show ((Rect.unit (s := S2x128x2048) off S1x1x2048.size h).emb (Shape.reshapeEquiv _ x) a : ℕ) = _
  rw [ValueKit.rect_emb_unit_val]
  exact congrArg (fun z : S1x1x2048.Idx => off a + (z a : ℕ)) (Shape.reshapeEquiv_cons_one (d := S1x2048.size) _ x)
theorem dstS_emb {off} (h) (x : S1x128.Idx) (a : Fin 3) :
    ((dstS off h).view.emb x a : ℕ) = off a + ((Fin.cons ⟨0, Nat.one_pos⟩ x : S1x1x128.Idx) a : ℕ) := by
  show ((Rect.unit (s := S2x128x128) off S1x1x128.size h).emb (Shape.reshapeEquiv _ x) a : ℕ) = _
  rw [ValueKit.rect_emb_unit_val]
  exact congrArg (fun z : S1x1x128.Idx => off a + (z a : ℕ)) (Shape.reshapeEquiv_cons_one (d := S1x128.size) _ x)

/-- The index of a one-row vector at column `k`. -/
def colC (k : Fin 2048) : S1x2048.Idx := fun a => match a with | 0 => ⟨0, Nat.one_pos⟩ | 1 => k
def colS (k : Fin 128) : S1x128.Idx := fun a => match a with | 0 => ⟨0, Nat.one_pos⟩ | 1 => k

theorem dstC_at {off} (h) {s : ℕ} {t : Fin 128} (e : off = ![s, t.val, 0]) {y : S2x128x2048.Idx} (hy : y ∈ rowC s t) :
    (dstC off h).view.emb (colC (y 2)) = y := by
  subst e
  simp only [rowC, Finset.mem_filter] at hy
  refine funext fun (a : Fin 3) => Fin.ext ?_
  rw [dstC_emb]
  fin_cases a
  · show s + 0 = (y 0).val; omega
  · show t.val + 0 = (y 1).val; omega
  · show 0 + (y 2).val = (y 2).val; omega
theorem dstS_at {off} (h) {s : ℕ} {t : Fin 128} (e : off = ![s, t.val, 0]) {y : S2x128x128.Idx} (hy : y ∈ rowS s t) :
    (dstS off h).view.emb (colS (y 2)) = y := by
  subst e
  simp only [rowS, Finset.mem_filter] at hy
  refine funext fun (a : Fin 3) => Fin.ext ?_
  rw [dstS_emb]
  fin_cases a
  · show s + 0 = (y 0).val; omega
  · show t.val + 0 = (y 1).val; omega
  · show 0 + (y 2).val = (y 2).val; omega

theorem dstC_sub {off} (h) {s : ℕ} {t : Fin 128} (e : off = ![s, t.val, 0]) : (dstC off h).view.set ⊆ rowC s t := by
  subst e
  intro y hy
  obtain ⟨x, -, rfl⟩ := Finset.mem_map.mp hy
  have h0 : (x 0).val < 1 := (x 0).isLt
  refine Finset.mem_filter.mpr ⟨Finset.mem_univ _, ?_, ?_⟩
  · exact (dstC_emb h x 0).trans (by show s + 0 = s; omega)
  · exact (dstC_emb h x 1).trans (by show t.val + (x 0).val = t.val; omega)
theorem dstS_sub {off} (h) {s : ℕ} {t : Fin 128} (e : off = ![s, t.val, 0]) : (dstS off h).view.set ⊆ rowS s t := by
  subst e
  intro y hy
  obtain ⟨x, -, rfl⟩ := Finset.mem_map.mp hy
  have h0 : (x 0).val < 1 := (x 0).isLt
  refine Finset.mem_filter.mpr ⟨Finset.mem_univ _, ?_, ?_⟩
  · exact (dstS_emb h x 0).trans (by show s + 0 = s; omega)
  · exact (dstS_emb h x 1).trans (by show t.val + (x 0).val = t.val; omega)

/-- A source row, as the kernel spells a transfer's source. -/
abbrev inC (off : Fin S16000x2048.rank → ℕ) (h : ∀ a, off a + S1x2048.size a ≤ S16000x2048.size a) : Memref sig .tc .hbm S1x2048 .i32 :=
  srcC.slice (Rect.unit (s := S16000x2048) off S1x2048.size h) (fun _ => rfl)
abbrev inS (off : Fin S32000x128.rank → ℕ) (h : ∀ a, off a + S1x128.size a ≤ S32000x128.size a) : Memref sig .tc .hbm S1x128 .i32 :=
  srcS.slice (Rect.unit (s := S32000x128) off S1x128.size h) (fun _ => rfl)

theorem inC_set {off} (h) {r : ℕ} (e : off = ![r, 0]) : (inC off h).view.set = fromC r := by
  subst e
  show ((View.whole main_v3).slice _).set = _
  rw [View.set_slice_whole]
  ext y
  rw [Rect.mem_set_unit]
  simp only [fromC, Finset.mem_filter, Finset.mem_univ, true_and]
  have h1 : (y 1).val < 2048 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 2048; omega
theorem inS_set {off} (h) {r : ℕ} (e : off = ![r, 0]) : (inS off h).view.set = fromS r := by
  subst e
  show ((View.whole main_v6).slice _).set = _
  rw [View.set_slice_whole]
  ext y
  rw [Rect.mem_set_unit]
  simp only [fromS, Finset.mem_filter, Finset.mem_univ, true_and]
  have h1 : (y 1).val < 128 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 128; omega

/-! ## The values -/

/-- An element of a matrix named by its coordinates (taken modulo the extents, so that the name is total). -/
def cC (r k : ℕ) : S16000x2048.Idx := fun a => match a with
  | 0 => ⟨r % 16000, Nat.mod_lt _ (by decide)⟩ | 1 => ⟨k % 2048, Nat.mod_lt _ (by decide)⟩
def cS (r k : ℕ) : S32000x128.Idx := fun a => match a with
  | 0 => ⟨r % 32000, Nat.mod_lt _ (by decide)⟩ | 1 => ⟨k % 128, Nat.mod_lt _ (by decide)⟩
/-- An entry of the ids table. -/
def cT (n : ℕ) : S2048.Idx := fun a => match a with | 0 => ⟨n % 2048, Nat.mod_lt _ (by decide)⟩

variable (tb : S2048.Idx → Elt F .i32) (cd : S16000x2048.Idx → Elt F .i32) (sc : S32000x128.Idx → Elt F .i32)

/-- The id of token `n`. -/
def idw (n : ℕ) : BitVec 32 := tb (cT n)
/-- The code-word row and the scale-word row the id names. -/
def rwC (n : ℕ) : ℕ := (idw tb n >>> 2).toNat
def rwS (n : ℕ) : ℕ := (idw tb n >>> 1).toNat

/-- A slot of code words filled for grid point `p`: row `t` is the words of token `128 p + t`. -/
def valC (p : ℕ) : S2x128x2048.Idx → Elt F .i32 := fun y => cd (cC (rwC tb (128 * p + (y 1).val)) (y 2).val)
/-- A slot of scale words filled for grid point `p`: row `t` is the words of token `128 p + t`. -/
def valS (p : ℕ) : S2x128x128.Idx → Elt F .i32 := fun y => sc (cS (rwS tb (128 * p + (y 1).val)) (y 2).val)

theorem inC_read {off} (h) {n : ℕ} (e : off = ![rwC tb n, 0]) (k : Fin 2048) :
    (inC off h).view.read (Elt F) cd (colC k) = cd (cC (rwC tb n) k.val) := by
  subst e
  have hb : rwC tb n + 1 ≤ 16000 := h 0
  show cd ((inC _ h).view.emb (colC k)) = _
  refine congrArg cd (funext fun (a : Fin 2) => Fin.ext ?_)
  refine (ValueKit.rect_emb_unit_val (s := S16000x2048) _ _ h (colC k) a).trans ?_
  fin_cases a
  · show rwC tb n + 0 = rwC tb n % 16000; rw [Nat.mod_eq_of_lt (by omega)]; rfl
  · show 0 + k.val = k.val % 2048; rw [Nat.mod_eq_of_lt k.isLt, Nat.zero_add]
theorem inS_read {off} (h) {n : ℕ} (e : off = ![rwS tb n, 0]) (k : Fin 128) :
    (inS off h).view.read (Elt F) sc (colS k) = sc (cS (rwS tb n) k.val) := by
  subst e
  have hb : rwS tb n + 1 ≤ 32000 := h 0
  show sc ((inS _ h).view.emb (colS k)) = _
  refine congrArg sc (funext fun (a : Fin 2) => Fin.ext ?_)
  refine (ValueKit.rect_emb_unit_val (s := S32000x128) _ _ h (colS k) a).trans ?_
  fin_cases a
  · show rwS tb n + 0 = rwS tb n % 32000; rw [Nat.mod_eq_of_lt (by omega)]; rfl
  · show 0 + k.val = k.val % 128; rw [Nat.mod_eq_of_lt k.isLt, Nat.zero_add]

/-! ## The batches -/

/-- What one row transfer adds to its semaphore. -/
def unitC : ℕ := (dstC ![0, 0, 0] (by decide)).view.dmaCredit
def unitS : ℕ := (dstS ![0, 0, 0] (by decide)).view.dmaCredit
theorem unitC_pos : 0 < unitC := View.dmaCredit_pos _ (by decide)
theorem unitS_pos : 0 < unitS := View.dmaCredit_pos _ (by decide)

/-- The semaphores of slot `s`. -/
def semC (s : ℕ) : DmaSem sig := if s = 0 then 4 else 5
def semS (s : ℕ) : DmaSem sig := if s = 0 then 6 else 7

variable (c : Dev nD) (s p : ℕ)

/-- The share of the source arrays the transfers of slot `s` read under. -/
def shareAt : PosShare TreeShare := Transfers.shareTokN fullShare s

/-- The code gather of grid point `p` into slot `s`: `j` rows issued, the rest in hand; -/
def issC (j : ℕ) : sProp 𝕄 :=
  issuing (Val := Elt F) (c : Thread nD τ) (.dma (semC s)) unitC (ℓd := bufC.view.loc (c : Thread nD τ)) (ℓs := srcC.view.loc (c : Thread nD τ))
    (rowC s) (fun t => fromC (rwC tb (128 * p + t.val))) (shareAt s) (valC tb cd p) cd j
/-- `j` rows issued, `u` units awaited; -/
def runC (j u : ℕ) : sProp 𝕄 :=
  running (Val := Elt F) (c : Thread nD τ) (.dma (semC s)) unitC (ℓd := bufC.view.loc (c : Thread nD τ)) (ℓs := srcC.view.loc (c : Thread nD τ))
    (rowC s) (fun t => fromC (rwC tb (128 * p + t.val))) (shareAt s) (valC tb cd p) cd j u
/-- and what the transfers leave unread. -/
def restC : sProp 𝕄 :=
  rest (Val := Elt F) (ℓs := srcC.view.loc (c : Thread nD τ)) (fun t => fromC (rwC tb (128 * p + t.val))) (shareAt s) cd

/-- The scale gather of grid point `p` into slot `s`, likewise. -/
def issS (j : ℕ) : sProp 𝕄 :=
  issuing (Val := Elt F) (c : Thread nD τ) (.dma (semS s)) unitS (ℓd := bufS.view.loc (c : Thread nD τ)) (ℓs := srcS.view.loc (c : Thread nD τ))
    (rowS s) (fun t => fromS (rwS tb (128 * p + t.val))) (shareAt s) (valS tb sc p) sc j
def runS (j u : ℕ) : sProp 𝕄 :=
  running (Val := Elt F) (c : Thread nD τ) (.dma (semS s)) unitS (ℓd := bufS.view.loc (c : Thread nD τ)) (ℓs := srcS.view.loc (c : Thread nD τ))
    (rowS s) (fun t => fromS (rwS tb (128 * p + t.val))) (shareAt s) (valS tb sc p) sc j u
def restS : sProp 𝕄 :=
  rest (Val := Elt F) (ℓs := srcS.view.loc (c : Thread nD τ)) (fun t => fromS (rwS tb (128 * p + t.val))) (shareAt s) sc

/-- What a delivered row reads as, given what a transfer of the source row writes into the slot. -/
theorem landC {off6 : Fin 3 → ℕ} (h6) {off3 : Fin 2 → ℕ} (h3) {s n p : ℕ} {t : Fin 128} (e6 : off6 = ![s, t.val, 0])
    (e3 : off3 = ![rwC tb (128 * p + t.val), 0]) (f : S2x128x2048.Idx → Elt F .i32) :
    ∀ y ∈ rowC s t, (dstC off6 h6).view.write (Elt F) f ((inC off3 h3).view.read (Elt F) cd) Finset.univ y = valC tb cd p y := by
  intro y hy
  have ey := dstC_at h6 e6 hy
  have hw : (dstC off6 h6).view.write (Elt F) f ((inC off3 h3).view.read (Elt F) cd) Finset.univ ((dstC off6 h6).view.emb (colC (y 2)))
      = (inC off3 h3).view.read (Elt F) cd (colC (y 2)) := View.write_emb_of_mem _ _ (Finset.mem_univ _)
  rw [ey] at hw
  refine hw.trans ((inC_read tb cd h3 e3 (y 2)).trans ?_)
  have ht : (y 1).val = t.val := (Finset.mem_filter.mp hy).2.2
  show cd (cC (rwC tb (128 * p + t.val)) (y 2).val) = _
  rw [← ht]; rfl
theorem landS {off6 : Fin 3 → ℕ} (h6) {off3 : Fin 2 → ℕ} (h3) {s n p : ℕ} {t : Fin 128} (e6 : off6 = ![s, t.val, 0])
    (e3 : off3 = ![rwS tb (128 * p + t.val), 0]) (f : S2x128x128.Idx → Elt F .i32) :
    ∀ y ∈ rowS s t, (dstS off6 h6).view.write (Elt F) f ((inS off3 h3).view.read (Elt F) sc) Finset.univ y = valS tb sc p y := by
  intro y hy
  have ey := dstS_at h6 e6 hy
  have hw : (dstS off6 h6).view.write (Elt F) f ((inS off3 h3).view.read (Elt F) sc) Finset.univ ((dstS off6 h6).view.emb (colS (y 2)))
      = (inS off3 h3).view.read (Elt F) sc (colS (y 2)) := View.write_emb_of_mem _ _ (Finset.mem_univ _)
  rw [ey] at hw
  refine hw.trans ((inS_read tb sc h3 e3 (y 2)).trans ?_)
  have ht : (y 1).val = t.val := (Finset.mem_filter.mp hy).2.2
  show sc (cS (rwS tb (128 * p + t.val)) (y 2).val) = _
  rw [← ht]; rfl

section Rules

variable {Λ : Labels} {defs : Defs nD τ sig (Elt F) Λ} (𝒱 : Variants) (bd : Option 𝒱.V) {α : Type} {Q : α → sProp (MT nD τ sig Unit (Elt F) ℕ (Pipeline.UD sig nD τ) ℕ)}

/-- Issue row `t` of the code gather. -/
theorem wp_issC {off6 : Fin 3 → ℕ} {h6 : ∀ a, off6 a + S1x1x2048.size a ≤ S2x128x2048.size a} {off3 : Fin 2 → ℕ}
    {h3 : ∀ a, off3 a + S1x2048.size a ≤ S16000x2048.size a} {sem : DmaSem sig} {hsrc : (inC off3 h3).view.WordExact} {hdst : (dstC off6 h6).view.WordExact}
    {hsem : DmaTarget.Typed (nD := nD) (τ := τ) (p := Proc.tc) .hbm (.dma sem) (.here (dstC off6 h6))}
    {k : PUnit → Prog (TpuEff nD τ sig (Elt F) Λ .tc) α} (t : ℕ) (ht : t < 128)
    (e6 : off6 = ![s, t, 0]) (e3 : off3 = ![rwC tb (128 * p + t), 0]) (es : sem = semC s) :
    issC tb cd c s p t ⊢ iprop((issC tb cd c s p (t + 1) -∗ wp frame (wpE defs 𝒱 (c : Thread nD τ) bd) Set.univ (k ⟨⟩) Q)
      -∗ wp frame (wpE defs 𝒱 (c : Thread nD τ) bd) Set.univ
        (.op (.enqueueDmaAs (inC off3 h3) (.here (dstC off6 h6)) .same (.dma sem) hsrc hdst hsem) k) Q) := by
  subst es
  unfold issC
  rw [Cert.RowBatch.issuing_next _ _ _ _ _ _ _ _ ht]
  unfold todo running issuing running
  iintro ⟨HB, ⟨⟨%f, Hd⟩, Hs⟩, Hr⟩ Hk
  iapply (Transfers.wp_dmaBatch (countersEmb (U := Pipeline.UD sig nD τ)) 𝒱 (c : Thread nD τ) bd (src := inC off3 h3) (dst := dstC off6 h6)
    (via := .same) () unitC (Sd := rowC s ⟨t, ht⟩) (fd := f) (fs := cd) (q := Transfers.shareTok (shareAt s) 128 ⟨t, ht⟩)
    (D := deliv (Val := Elt F) (ℓd := bufC.view.loc (c : Thread nD τ)) (ℓs := srcC.view.loc (c : Thread nD τ))
      (rowC s) (fun t => fromC (rwC tb (128 * p + t.val))) (shareAt s) (valC tb cd p) cd) rfl
    (dstC_sub h6 (t := ⟨t, ht⟩) e6) ht (Nat.zero_le _) ?_) $$ [HB Hd Hs]
  · unfold deliv
    rw [inC_set h3 e3]
    exact Entails.of_eq (congrArg₂ BI.sep (pointsTo_congr (landC tb cd h6 h3 (n := 0) (t := ⟨t, ht⟩) e6 e3 f)) rfl)
  · rw [inC_set h3 e3]
    isplitl [Hs]; · iexact Hs
    isplitl [Hd]; · iexact Hd
    iexact HB
  iintro HB
  iapply Hk
  isplitl [HB]; · iexact HB
  iexact Hr

/-- Issue row `t` of the scale gather. -/
theorem wp_issS {off6 : Fin 3 → ℕ} {h6 : ∀ a, off6 a + S1x1x128.size a ≤ S2x128x128.size a} {off3 : Fin 2 → ℕ}
    {h3 : ∀ a, off3 a + S1x128.size a ≤ S32000x128.size a} {sem : DmaSem sig} {hsrc : (inS off3 h3).view.WordExact} {hdst : (dstS off6 h6).view.WordExact}
    {hsem : DmaTarget.Typed (nD := nD) (τ := τ) (p := Proc.tc) .hbm (.dma sem) (.here (dstS off6 h6))}
    {k : PUnit → Prog (TpuEff nD τ sig (Elt F) Λ .tc) α} (t : ℕ) (ht : t < 128)
    (e6 : off6 = ![s, t, 0]) (e3 : off3 = ![rwS tb (128 * p + t), 0]) (es : sem = semS s) :
    issS tb sc c s p t ⊢ iprop((issS tb sc c s p (t + 1) -∗ wp frame (wpE defs 𝒱 (c : Thread nD τ) bd) Set.univ (k ⟨⟩) Q)
      -∗ wp frame (wpE defs 𝒱 (c : Thread nD τ) bd) Set.univ
        (.op (.enqueueDmaAs (inS off3 h3) (.here (dstS off6 h6)) .same (.dma sem) hsrc hdst hsem) k) Q) := by
  subst es
  unfold issS
  rw [Cert.RowBatch.issuing_next _ _ _ _ _ _ _ _ ht]
  unfold todo running issuing running
  iintro ⟨HB, ⟨⟨%f, Hd⟩, Hs⟩, Hr⟩ Hk
  iapply (Transfers.wp_dmaBatch (countersEmb (U := Pipeline.UD sig nD τ)) 𝒱 (c : Thread nD τ) bd (src := inS off3 h3) (dst := dstS off6 h6)
    (via := .same) () unitS (Sd := rowS s ⟨t, ht⟩) (fd := f) (fs := sc) (q := Transfers.shareTok (shareAt s) 128 ⟨t, ht⟩)
    (D := deliv (Val := Elt F) (ℓd := bufS.view.loc (c : Thread nD τ)) (ℓs := srcS.view.loc (c : Thread nD τ))
      (rowS s) (fun t => fromS (rwS tb (128 * p + t.val))) (shareAt s) (valS tb sc p) sc) rfl
    (dstS_sub h6 (t := ⟨t, ht⟩) e6) ht (Nat.zero_le _) ?_) $$ [HB Hd Hs]
  · unfold deliv
    rw [inS_set h3 e3]
    exact Entails.of_eq (congrArg₂ BI.sep (pointsTo_congr (landS tb sc h6 h3 (n := 0) (t := ⟨t, ht⟩) e6 e3 f)) rfl)
  · rw [inS_set h3 e3]
    isplitl [Hs]; · iexact Hs
    isplitl [Hd]; · iexact Hd
    iexact HB
  iintro HB
  iapply Hk
  isplitl [HB]; · iexact HB
  iexact Hr

/-- Await one row of the code gather, all 128 issued and `j` awaited. -/
theorem wp_awaitC {off6 : Fin 3 → ℕ} {h6 : ∀ a, off6 a + S1x1x2048.size a ≤ S2x128x2048.size a} {off3 : Fin 2 → ℕ}
    {h3 : ∀ a, off3 a + S1x2048.size a ≤ S16000x2048.size a} {sem : DmaSem sig} {hsrc : (inC off3 h3).view.WordExact} {hdst : (dstC off6 h6).view.WordExact}
    {k : PUnit → Prog (TpuEff nD τ sig (Elt F) Λ .tc) α} (j : ℕ) (hj : j < 128) (es : sem = semC s) {W : Waits sig Unit} :
    iprop(runC tb cd c s p 128 (j * unitC) ∗ owes (c : Thread nD τ) 0 W)
      ⊢ iprop(((runC tb cd c s p 128 ((j + 1) * unitC) ∗ owes (c : Thread nD τ) 0 (insert (SemLoc.dma sem, ()) W))
          -∗ wp frame (wpE defs 𝒱 (c : Thread nD τ) bd) Set.univ (k ⟨⟩) Q)
        -∗ wp frame (wpE defs 𝒱 (c : Thread nD τ) bd) Set.univ (.op (.waitDma2 sem (inC off3 h3) (dstC off6 h6) hsrc hdst) k) Q) := by
  subst es
  unfold runC running
  rw [show (j + 1) * unitC = j * unitC + 1 * unitC by rw [← Nat.add_mul]]
  exact Transfers.wp_waitBatchMul (countersEmb (U := Pipeline.UD sig nD τ)) 𝒱 (c : Thread nD τ) bd () 1 (by rw [Nat.one_mul]; rfl)
    (by rw [← Nat.add_mul, Nat.mul_comm unitC]; exact Nat.mul_le_mul_right _ hj)

/-- Await one row of the scale gather, likewise. -/
theorem wp_awaitS {off6 : Fin 3 → ℕ} {h6 : ∀ a, off6 a + S1x1x128.size a ≤ S2x128x128.size a} {off3 : Fin 2 → ℕ}
    {h3 : ∀ a, off3 a + S1x128.size a ≤ S32000x128.size a} {sem : DmaSem sig} {hsrc : (inS off3 h3).view.WordExact} {hdst : (dstS off6 h6).view.WordExact}
    {k : PUnit → Prog (TpuEff nD τ sig (Elt F) Λ .tc) α} (j : ℕ) (hj : j < 128) (es : sem = semS s) {W : Waits sig Unit} :
    iprop(runS tb sc c s p 128 (j * unitS) ∗ owes (c : Thread nD τ) 0 W)
      ⊢ iprop(((runS tb sc c s p 128 ((j + 1) * unitS) ∗ owes (c : Thread nD τ) 0 (insert (SemLoc.dma sem, ()) W))
          -∗ wp frame (wpE defs 𝒱 (c : Thread nD τ) bd) Set.univ (k ⟨⟩) Q)
        -∗ wp frame (wpE defs 𝒱 (c : Thread nD τ) bd) Set.univ (.op (.waitDma2 sem (inS off3 h3) (dstS off6 h6) hsrc hdst) k) Q) := by
  subst es
  unfold runS running
  rw [show (j + 1) * unitS = j * unitS + 1 * unitS by rw [← Nat.add_mul]]
  exact Transfers.wp_waitBatchMul (countersEmb (U := Pipeline.UD sig nD τ)) 𝒱 (c : Thread nD τ) bd () 1 (by rw [Nat.one_mul]; rfl)
    (by rw [← Nat.add_mul, Nat.mul_comm unitS]; exact Nat.mul_le_mul_right _ hj)

end Rules

end Cert.Kernel.Proof

end
-- ==== Proof.KernelTrips.lean ====
/-
  One trip of each of the kernel's loops: an issue trip starts eight rows of both gathers; a drain trip awaits one row
  of each.
-/
module

public import proofs.«01_k».proof.Proof.KernelRows

@[expose] public section

noncomputable section

namespace Cert.Kernel.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.RowBatch (deliv todo running issuing rest)

variable {F : FTy → Type} [FloatOps F]

local notation "𝕄" => MT nD τ sig Unit (Elt F) ℕ (Pipeline.UD sig nD τ) ℕ

variable (tb : S2048.Idx → Elt F .i32) (cd : S16000x2048.Idx → Elt F .i32) (sc : S32000x128.Idx → Elt F .i32)

theorem vec1 {a b : ℕ} (h : a = b) : (![a] : Fin 1 → ℕ) = ![b] := by rw [h]
theorem vec3 {a b c d : ℕ} (h : a = c) (h' : b = d) : (![a, b, 0] : Fin 3 → ℕ) = ![c, d, 0] := by rw [h, h']

/-- Reading one word of the ids table yields that token's id. -/
theorem readId {off : Fin 1 → ℕ} (h : ∀ a, off a + S1.size a ≤ S2048.size a) {n : ℕ} (e : off = ![n]) (x) :
    tblM.view.readAt (Elt F) (Rect.unit (s := S2048) off S1.size h).toLoadRect tb x = idw tb n := by
  subst e
  have hb : n + 1 ≤ 2048 := h 0
  show tb ((Rect.unit (s := S2048) ![n] S1.size h).emb x) = tb (cT n)
  refine congrArg tb (funext fun (a : Fin 1) => Fin.ext ?_)
  refine (ValueKit.rect_emb_unit_val (s := S2048) _ _ h x a).trans ?_
  fin_cases a
  have hx : (x 0).val < 1 := (x 0).isLt
  show n + (x 0).val = n % 2048
  rw [Nat.mod_eq_of_lt (by omega)]; omega

theorem rowC_of {r : BitVec 32} {n : ℕ} (e : r = idw tb n) : (![(Scalar.shrui r 2#32).toNat, 0] : Fin 2 → ℕ) = ![rwC tb n, 0] := by
  subst e; rfl
theorem rowS_of {r : BitVec 32} {n : ℕ} (e : r = idw tb n) : (![(Scalar.shrui r 1#32).toNat, 0] : Fin 2 → ℕ) = ![rwS tb n, 0] := by
  subst e; rfl

/-- An id below 64000 names a row of the code words and a row of the scale words. -/
theorem inbC {r : BitVec 32} (h : r.toNat < 64000) : ∀ a : Fin 2, (![(Scalar.shrui r 2#32).toNat, 0] : Fin 2 → ℕ) a + S1x2048.size a ≤ S16000x2048.size a := by
  have e : (Scalar.shrui r 2#32).toNat = r.toNat / 4 := by
    show (r >>> 2).toNat = _
    rw [BitVec.toNat_ushiftRight, Nat.shiftRight_eq_div_pow]
  intro a; rw [e]; fin_cases a
  · show r.toNat / 4 + 1 ≤ 16000; omega
  · show 0 + 2048 ≤ 2048; omega
theorem inbS {r : BitVec 32} (h : r.toNat < 64000) : ∀ a : Fin 2, (![(Scalar.shrui r 1#32).toNat, 0] : Fin 2 → ℕ) a + S1x128.size a ≤ S32000x128.size a := by
  have e : (Scalar.shrui r 1#32).toNat = r.toNat / 2 := by
    show (r >>> 1).toNat = _
    rw [BitVec.toNat_ushiftRight, Nat.shiftRight_eq_div_pow]
  intro a; rw [e]; fin_cases a
  · show r.toNat / 2 + 1 ≤ 32000; omega
  · show 0 + 128 ≤ 128; omega

theorem readId_lt (hid : ∀ n, (idw tb n).toNat < 64000) {r : BitVec 32} {n : ℕ} (e : r = idw tb n) : r.toNat < 64000 := e ▸ hid n

/-- The semaphore of a slot, as the kernel names it. -/
theorem sem_C {off : Fin 1 → ℕ} {s : ℕ} {h : ∀ a, off a + S1.size a ≤ S2.size a} (hs : s < 2) (e : off = ![s]) :
    ((cc0_scratch2.slice (Rect.unit (s := S2) off S1.size h)).squeeze S_ squeezes_S1_S_).sem = semC s := by
  subst e
  rcases (show s = 0 ∨ s = 1 by omega) with rfl | rfl <;> (revert h; decide)
theorem sem_S {off : Fin 1 → ℕ} {s : ℕ} {h : ∀ a, off a + S1.size a ≤ S2.size a} (hs : s < 2) (e : off = ![s]) :
    ((cc0_scratch3.slice (Rect.unit (s := S2) off S1.size h)).squeeze S_ squeezes_S1_S_).sem = semS s := by
  subst e
  rcases (show s = 0 ∨ s = 1 by omega) with rfl | rfl <;> (revert h; decide)

theorem ret_bind' {E : Type → Type} {α β : Type} (a : α) (f : α → Prog E β) : (Prog.ret a).bind f = f a := rfl

theorem bind_form {E : Type → Type} {α β : Type} (p : Prog E α) (f : α → Prog E β) : p.bind f = (p >>= f) := rfl

theorem trips1 : k0_t1_loop.trips = 16 := by decide
theorem trips2 : k0_t2_loop.trips = 16 := by decide
theorem trips3 : k0_t3_loop.trips = 128 := by decide

set_option maxHeartbeats 4000000 in
/-- A trip of the loop that starts the next point's gathers: eight more rows of each are issued. -/
theorem step2 (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    (arg0 : BitVec 32) (v0 : BitVec 32) (k0_h2 : k0_cond2 i = 1#1) (v1007 : BitVec 32) (k : Fin k0_t2_loop.trips) (acc : Unit) :
    iprop(issC tb cd c (1 - (i 0).val % 2) ((i 0).val + 1) (8 * k.val) ∗ issS tb sc c (1 - (i 0).val % 2) ((i 0).val + 1) (8 * k.val)
        ∗ (tblM.view.loc (c : Thread nD τ) ↦{q} tb)) ⊢
    wp frame (wpE defs₀ Variants.none (c : Thread nD τ) none) Set.univ
     (k0_t2_body (F := F) i tblM (Memref.isWhole_whole _) arg2 harg2 srcC (Memref.isWhole_whole _) srcS (Memref.isWhole_whole _) arg5 harg5
        bufC (Memref.isWhole_whole _) bufS (Memref.isWhole_whole _) cc0_scratch2 cc0_scratch3 arg0 v0 k0_h2 v1007 k acc)
     (fun _ => iprop(issC tb cd c (1 - (i 0).val % 2) ((i 0).val + 1) (8 * (k.val + 1)) ∗ issS tb sc c (1 - (i 0).val % 2) ((i 0).val + 1) (8 * (k.val + 1))
        ∗ (tblM.view.loc (c : Thread nD τ) ↦{q} tb))) := by
  have hk : k.val < 16 := trips2 ▸ k.isLt
  have hs : 1 - (i 0).val % 2 < 2 := by omega
  iintro ⟨HC, HS, HT⟩
  sl_unfold [k0_t2_body]
  sl_open_parts
  iterate 8
    sl_exec
    iapply (wp_assume Variants.none (c : Thread nD τ) none Set.univ ?_)
    rotate_left
    · sl_unfold_run_names
      exact ⟨fun _ => inbC (readId_lt tb hid (readId tb _ (by exact ClosedOff.eq) _)),
        fun _ => inbS (readId_lt tb hid (readId tb _ (by exact ClosedOff.eq) _))⟩
    try sl_exec
    iapply (wp_issC tb cd c (1 - (i 0).val % 2) ((i 0).val + 1) Variants.none none _ ?_
      (ClosedOff.eq.trans (vec3 rfl rfl)) ?_ (sem_C hs ClosedOff.eq)) $$ HC
    · omega
    · sl_unfold_run_names
      exact rowC_of tb (readId tb _ (by exact ClosedOff.eq.trans (vec1 (by omega))) _)
    iintro HC
    beta_reduce
    sl_rw [ret_bind']
    try sl_rw [bind_form]
    try sl_exec
    iapply (wp_issS tb sc c (1 - (i 0).val % 2) ((i 0).val + 1) Variants.none none _ ?_
      (ClosedOff.eq.trans (vec3 rfl rfl)) ?_ (sem_S hs ClosedOff.eq)) $$ HS
    · omega
    · sl_unfold_run_names
      exact rowS_of tb (readId tb _ (by exact ClosedOff.eq.trans (vec1 (by omega))) _)
    iintro HS
    beta_reduce
    sl_rw [ret_bind']
    try sl_rw [bind_form]
  sl_step
  rw [show 8 * (k.val + 1) = 8 * k.val + 1 + 1 + 1 + 1 + 1 + 1 + 1 + 1 by omega]
  isplitl [HC]; · iexact HC
  isplitl [HS]; · iexact HS
  iexact HT

set_option maxHeartbeats 4000000 in
/-- A trip of the loop that starts the first point's gathers: eight more rows of each are issued. -/
theorem step1 (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    (k0_h1 : k0_cond1 i = 1#1) (k : Fin k0_t1_loop.trips) (acc : Unit) :
    iprop(issC tb cd c 0 0 (8 * k.val) ∗ issS tb sc c 0 0 (8 * k.val)
        ∗ (tblM.view.loc (c : Thread nD τ) ↦{q} tb)) ⊢
    wp frame (wpE defs₀ Variants.none (c : Thread nD τ) none) Set.univ
     (k0_t1_body (F := F) i tblM (Memref.isWhole_whole _) arg2 harg2 srcC (Memref.isWhole_whole _) srcS (Memref.isWhole_whole _) arg5 harg5
        bufC (Memref.isWhole_whole _) bufS (Memref.isWhole_whole _) cc0_scratch2 cc0_scratch3 k0_h1 k acc)
     (fun _ => iprop(issC tb cd c 0 0 (8 * (k.val + 1)) ∗ issS tb sc c 0 0 (8 * (k.val + 1))
        ∗ (tblM.view.loc (c : Thread nD τ) ↦{q} tb))) := by
  have hk : k.val < 16 := trips1 ▸ k.isLt
  have hs : 0 < 2 := by decide
  iintro ⟨HC, HS, HT⟩
  sl_unfold [k0_t1_body]
  sl_open_parts
  iterate 8
    sl_exec
    iapply (wp_assume Variants.none (c : Thread nD τ) none Set.univ ?_)
    rotate_left
    · sl_unfold_run_names
      exact ⟨fun _ => inbC (readId_lt tb hid (readId tb _ (by exact ClosedOff.eq) _)),
        fun _ => inbS (readId_lt tb hid (readId tb _ (by exact ClosedOff.eq) _))⟩
    try sl_exec
    iapply (wp_issC tb cd c 0 0 Variants.none none _ ?_
      (ClosedOff.eq.trans (vec3 rfl rfl)) ?_ (sem_C hs rfl)) $$ HC
    · omega
    · sl_unfold_run_names
      exact rowC_of tb (readId tb _ (by exact ClosedOff.eq.trans (vec1 (by omega))) _)
    iintro HC
    beta_reduce
    sl_rw [ret_bind']
    try sl_rw [bind_form]
    try sl_exec
    iapply (wp_issS tb sc c 0 0 Variants.none none _ ?_
      (ClosedOff.eq.trans (vec3 rfl rfl)) ?_ (sem_S hs rfl)) $$ HS
    · omega
    · sl_unfold_run_names
      exact rowS_of tb (readId tb _ (by exact ClosedOff.eq.trans (vec1 (by omega))) _)
    iintro HS
    beta_reduce
    sl_rw [ret_bind']
    try sl_rw [bind_form]
  sl_step
  rw [show 8 * (k.val + 1) = 8 * k.val + 1 + 1 + 1 + 1 + 1 + 1 + 1 + 1 by omega]
  isplitl [HC]; · iexact HC
  isplitl [HS]; · iexact HS
  iexact HT

set_option maxHeartbeats 4000000 in
/-- A trip of the draining loop: one row of each gather is awaited. -/
theorem step3 (c : Dev nD) (p : ℕ) (i : grid0.Coords)
    (arg2 : Memref sig .tc .vmem S128x1 .i32) (harg2 : arg2.IsWhole) (arg5 : Memref sig .tc .vmem S128x4096 .bf16) (harg5 : arg5.IsWhole)
    (c0 c1 : BitVec 32) (k : Fin k0_t3_loop.trips) (acc : Unit) :
    iprop(runC tb cd c ((i 0).val % 2) p 128 (k.val * unitC) ∗ runS tb sc c ((i 0).val % 2) p 128 (k.val * unitS)
        ∗ ∃ W, owes (c : Thread nD τ) 0 W) ⊢
    wp frame (wpE defs₀ Variants.none (c : Thread nD τ) none) Set.univ
     (k0_t3_body (F := F) i tblM (Memref.isWhole_whole _) arg2 harg2 srcC (Memref.isWhole_whole _) srcS (Memref.isWhole_whole _) arg5 harg5
        bufC (Memref.isWhole_whole _) bufS (Memref.isWhole_whole _) cc0_scratch2 cc0_scratch3 c0 c1 k acc)
     (fun _ => iprop(runC tb cd c ((i 0).val % 2) p 128 ((k.val + 1) * unitC) ∗ runS tb sc c ((i 0).val % 2) p 128 ((k.val + 1) * unitS)
        ∗ ∃ W, owes (c : Thread nD τ) 0 W)) := by
  have hk : k.val < 128 := trips3 ▸ k.isLt
  have hs : (i 0).val % 2 < 2 := by omega
  iintro ⟨HC, HS, %W, HO⟩
  sl_unfold [k0_t3_body]
  iapply (wp_awaitC tb cd c ((i 0).val % 2) p Variants.none none k.val hk (sem_C hs ClosedOff.eq)) $$ [HC HO]
  · isplitl [HC]; · iexact HC
    iexact HO
  iintro ⟨HC, HO⟩
  beta_reduce
  iapply (wp_awaitS tb sc c ((i 0).val % 2) p Variants.none none k.val hk (sem_S hs ClosedOff.eq)) $$ [HS HO]
  · isplitl [HS]; · iexact HS
    iexact HO
  iintro ⟨HS, HO⟩
  beta_reduce
  sl_rw [ret_bind']
  sl_step
  isplitl [HC]; · iexact HC
  isplitl [HS]; · iexact HS
  iexists _
  iexact HO

end Cert.Kernel.Proof

end
-- ==== Proof.KernelSlots.lean ====
/-
  The slots of the two scratches between grid points, and the branches and the draining loop that move them.
-/
module

public import proofs.«01_k».proof.Proof.KernelTrips

@[expose] public section

noncomputable section

namespace Cert.Kernel.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.RowBatch (deliv todo running issuing rest)

variable {F : FTy → Type} [FloatOps F]

local notation "𝕄" => MT nD τ sig Unit (Elt F) ℕ (Pipeline.UD sig nD τ) ℕ

variable (tb : S2048.Idx → Elt F .i32) (cd : S16000x2048.Idx → Elt F .i32) (sc : S32000x128.Idx → Elt F .i32)

/-- The two conditions the kernel branches on, by the grid point. -/
theorem cond1_iff (i : grid0.Coords) : k0_cond1 i = 1#1 ↔ (i 0).val = 0 := by
  have h : ∀ n : ℕ, n < 16 → (Scalar.cmpi .ne (Scalar.extui (Scalar.cmpi .eq (BitVec.ofNat 32 n) 0#32) : BitVec 32) 0#32 = 1#1 ↔ n = 0) := by decide
  exact h _ (i 0).isLt
theorem cond2_iff (i : grid0.Coords) : k0_cond2 i = 1#1 ↔ (i 0).val + 1 < 16 := by
  have h : ∀ n : ℕ, n < 16 → (Scalar.cmpi .ne (Scalar.extui (Scalar.cmpi .slt (Scalar.addi (BitVec.ofNat 32 n) 1#32) 16#32) : BitVec 32) 0#32 = 1#1 ↔ n + 1 < 16) := by decide
  exact h _ (i 0).isLt

section Slots

variable (c : Dev nD) (s p : ℕ)

/-- Slot `s` at rest: its semaphores at zero, its rows at some contents, its share of the sources; -/
def idle : sProp 𝕄 :=
  iprop((semVal ((c : Thread nD τ), .dma (semC s)) 0 ∗ (∃ f, bufC.view.loc (c : Thread nD τ) ↦[slotC s]{fullShare} f)
      ∗ (srcC.view.loc (c : Thread nD τ) ↦{shareAt s} cd))
    ∗ (semVal ((c : Thread nD τ), .dma (semS s)) 0 ∗ (∃ f, bufS.view.loc (c : Thread nD τ) ↦[slotS s]{fullShare} f)
      ∗ (srcS.view.loc (c : Thread nD τ) ↦{shareAt s} sc)))
/-- with the rows of grid point `p` under way; -/
def flight : sProp 𝕄 :=
  iprop((runC tb cd c s p 128 0 ∗ restC tb cd c s p) ∗ (runS tb sc c s p 128 0 ∗ restS tb sc c s p))
/-- and with them arrived. -/
def ready : sProp 𝕄 :=
  iprop((semVal ((c : Thread nD τ), .dma (semC s)) 0 ∗ (bufC.view.loc (c : Thread nD τ) ↦[slotC s]{fullShare} valC tb cd p)
      ∗ (srcC.view.loc (c : Thread nD τ) ↦{shareAt s} cd))
    ∗ (semVal ((c : Thread nD τ), .dma (semS s)) 0 ∗ (bufS.view.loc (c : Thread nD τ) ↦[slotS s]{fullShare} valS tb sc p)
      ∗ (srcS.view.loc (c : Thread nD τ) ↦{shareAt s} sc)))

theorem begin_issue : idle cd sc c s ⊢
    (|={Set.univ}=> iprop((issC tb cd c s p 0 ∗ restC tb cd c s p) ∗ (issS tb sc c s p 0 ∗ restS tb sc c s p)) : sProp 𝕄) := by
  unfold idle
  iintro ⟨HC, HS⟩
  imod (Cert.RowBatch.start (Val := Elt F) (ℓd := bufC.view.loc (c : Thread nD τ)) (ℓs := srcC.view.loc (c : Thread nD τ)) (c : Thread nD τ) (.dma (semC s)) unitC (rowC s) (fun t => fromC (rwC tb (128 * p + t.val))) (shareAt s) (valC tb cd p) cd
    (rowC_disjoint s) (rowC_cover s)) $$ HC with HC
  imod (Cert.RowBatch.start (Val := Elt F) (ℓd := bufS.view.loc (c : Thread nD τ)) (ℓs := srcS.view.loc (c : Thread nD τ)) (c : Thread nD τ) (.dma (semS s)) unitS (rowS s) (fun t => fromS (rwS tb (128 * p + t.val))) (shareAt s) (valS tb sc p) sc
    (rowS_disjoint s) (rowS_cover s)) $$ HS with HS
  imodintro
  isplitl [HC]; · iexact HC
  iexact HS

theorem end_drain : iprop((runC tb cd c s p 128 (128 * unitC) ∗ restC tb cd c s p) ∗ (runS tb sc c s p 128 (128 * unitS) ∗ restS tb sc c s p)) ⊢
    (|={Set.univ}=> ready tb cd sc c s p : sProp 𝕄) := by
  rw [Nat.mul_comm 128, Nat.mul_comm 128]
  unfold runC restC runS restS
  iintro ⟨HC, HS⟩
  imod (Cert.RowBatch.finish (Val := Elt F) (ℓd := bufC.view.loc (c : Thread nD τ)) (ℓs := srcC.view.loc (c : Thread nD τ)) (c : Thread nD τ) (.dma (semC s)) unitC (rowC s) (fun t => fromC (rwC tb (128 * p + t.val))) (shareAt s) (valC tb cd p) cd
    unitC_pos (rowC_disjoint s) (rowC_cover s)) $$ HC with HC
  imod (Cert.RowBatch.finish (Val := Elt F) (ℓd := bufS.view.loc (c : Thread nD τ)) (ℓs := srcS.view.loc (c : Thread nD τ)) (c : Thread nD τ) (.dma (semS s)) unitS (rowS s) (fun t => fromS (rwS tb (128 * p + t.val))) (shareAt s) (valS tb sc p) sc
    unitS_pos (rowS_disjoint s) (rowS_cover s)) $$ HS with HS
  imodintro
  unfold ready
  isplitl [HC]; · iexact HC
  iexact HS

theorem issC_all : issC tb cd c s p 128 ⊢ runC tb cd c s p 128 0 := by
  unfold issC runC; exact Cert.RowBatch.issuing_all _ _ _ _ _ _ _ _
theorem issS_all : issS tb sc c s p 128 ⊢ runS tb sc c s p 128 0 := by
  unfold issS runS; exact Cert.RowBatch.issuing_all _ _ _ _ _ _ _ _

theorem ready_idle : ready tb cd sc c s p ⊢ (idle cd sc c s : sProp 𝕄) := by
  unfold ready idle
  iintro ⟨⟨H1, H2, H3⟩, H4, H5, H6⟩
  isplitl [H1 H2 H3]
  · isplitl [H1]; · iexact H1
    isplitl [H2]; · iexists _; iexact H2
    iexact H3
  · isplitl [H4]; · iexact H4
    isplitl [H5]; · iexists _; iexact H5
    iexact H6

/-- What the two slots hold before grid point `n`: the rows of point `n` under way in slot `n % 2` and the other slot at
    rest; before the first point and after the last, both at rest. -/
def stateAt (n : ℕ) : sProp 𝕄 :=
  if n = 0 ∨ n = 16 then iprop(idle cd sc c 0 ∗ idle cd sc c 1) else iprop(flight tb cd sc c (n % 2) n ∗ idle cd sc c (1 - n % 2))

/-- The slot grid point `n` does not read, once point `n + 1`'s gathers are started, if there is such a point. -/
def nextAt (n : ℕ) : sProp 𝕄 :=
  if n + 1 < 16 then flight tb cd sc c (1 - n % 2) (n + 1) else idle cd sc c (1 - n % 2)

theorem state_next (n : ℕ) (hn : n < 16) : iprop(ready tb cd sc c (n % 2) n ∗ nextAt tb cd sc c n) ⊢ (stateAt tb cd sc c (n + 1) : sProp 𝕄) := by
  unfold nextAt stateAt
  by_cases h : n + 1 < 16
  · rw [if_pos h, if_neg (by omega), show (n + 1) % 2 = 1 - n % 2 by omega, show 1 - (1 - n % 2) = n % 2 by omega]
    iintro ⟨H, H'⟩
    isplitl [H']; · iexact H'
    iapply ready_idle tb cd sc c $$ H
  · obtain rfl : n = 15 := by omega
    rw [if_neg h, if_pos (.inr rfl)]
    iintro ⟨H, H'⟩
    isplitl [H']; · iexact H'
    iapply ready_idle tb cd sc c $$ H

end Slots

section Parts

variable (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    {α : Type} {Q : α → sProp (MT nD τ sig Unit (Elt F) ℕ (Pipeline.UD sig nD τ) ℕ)}

include hid in
/-- The first branch starts point 0's gathers before the first point, and does nothing at the others. -/
theorem part10 (f : PUnit → Prog (TpuEff nD τ sig (Elt F) Λ₀ .tc) α) :
    iprop(stateAt tb cd sc c (i 0).val ∗ (tblM.view.loc (c : Thread nD τ) ↦{q} tb)) ⊢
      iprop(((flight tb cd sc c ((i 0).val % 2) (i 0).val ∗ idle cd sc c (1 - (i 0).val % 2) ∗ (tblM.view.loc (c : Thread nD τ) ↦{q} tb))
          -∗ wp frame (wpE defs₀ Variants.none (c : Thread nD τ) none) Set.univ (f ⟨⟩) Q)
        -∗ wp frame (wpE defs₀ Variants.none (c : Thread nD τ) none) Set.univ
          (k0_part10 (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3 >>= f) Q) := by
  have hi : (i 0).val < 16 := (i 0).isLt
  by_cases h0 : (i 0).val = 0
  · have k0_h1 : k0_cond1 i = 1#1 := (cond1_iff i).mpr h0
    unfold stateAt
    rw [if_pos (.inl h0)]
    iintro ⟨⟨HI, HJ⟩, HT⟩ Hk
    imod (begin_issue tb cd sc c 0 0) $$ HI with ⟨⟨HC, HRC⟩, HS, HRS⟩
    sl_open_parts
    sl_exec
    sl_rw [bind_assoc]
    sl_for (fun k _ => iprop(issC tb cd c 0 0 (8 * k) ∗ issS tb sc c 0 0 (8 * k) ∗ (tblM.view.loc (c : Thread nD τ) ↦{q} tb))) $$ [HC HS HT]
    · intro k acc
      exact step1 tb cd sc hid c q i arg2 harg2 arg5 harg5 k0_h1 k acc
    · isplitl [HC]; · iexact HC
      isplitl [HS]; · iexact HS
      iexact HT
    iintro %acc ⟨HC, HS, HT⟩
    iapply Hk
    rw [show 8 * Scf.trips k0_t1_loop.lb k0_t1_loop.ub k0_t1_loop.st = 128 from by decide]
    ihave HC := (issC_all tb cd c 0 0) $$ HC
    ihave HS := (issS_all tb sc c 0 0) $$ HS
    rw [h0]
    isplitl [HC HRC HS HRS]
    · unfold flight
      isplitl [HC HRC]
      · isplitl [HC]; · iexact HC
        iexact HRC
      · isplitl [HS]; · iexact HS
        iexact HRS
    isplitl [HJ]; · iexact HJ
    iexact HT
  · have k0_h1 : ¬ k0_cond1 i = 1#1 := fun h => h0 ((cond1_iff i).mp h)
    unfold stateAt
    rw [if_neg (by omega)]
    iintro ⟨⟨HI, HJ⟩, HT⟩ Hk
    sl_open_parts
    sl_exec
    iapply Hk
    isplitl [HI]; · iexact HI
    isplitl [HJ]; · iexact HJ
    iexact HT

include hid in
/-- The second branch starts the next point's gathers into the other slot, at every point but the last. -/
theorem part12 (arg0 v0 : BitVec 32) (f : PUnit → Prog (TpuEff nD τ sig (Elt F) Λ₀ .tc) α) :
    iprop(idle cd sc c (1 - (i 0).val % 2) ∗ (tblM.view.loc (c : Thread nD τ) ↦{q} tb)) ⊢
      iprop(((nextAt tb cd sc c (i 0).val ∗ (tblM.view.loc (c : Thread nD τ) ↦{q} tb))
          -∗ wp frame (wpE defs₀ Variants.none (c : Thread nD τ) none) Set.univ (f ⟨⟩) Q)
        -∗ wp frame (wpE defs₀ Variants.none (c : Thread nD τ) none) Set.univ
          (k0_part12 (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3 arg0 v0 >>= f) Q) := by
  have hi : (i 0).val < 16 := (i 0).isLt
  by_cases h0 : (i 0).val + 1 < 16
  · have k0_h2 : k0_cond2 i = 1#1 := (cond2_iff i).mpr h0
    unfold nextAt
    rw [if_pos h0]
    iintro ⟨HI, HT⟩ Hk
    imod (begin_issue tb cd sc c (1 - (i 0).val % 2) ((i 0).val + 1)) $$ HI with ⟨⟨HC, HRC⟩, HS, HRS⟩
    sl_open_parts
    sl_exec
    sl_rw [bind_assoc]
    sl_for (fun k _ => iprop(issC tb cd c (1 - (i 0).val % 2) ((i 0).val + 1) (8 * k) ∗ issS tb sc c (1 - (i 0).val % 2) ((i 0).val + 1) (8 * k)
      ∗ (tblM.view.loc (c : Thread nD τ) ↦{q} tb))) $$ [HC HS HT]
    · intro k acc
      exact step2 tb cd sc hid c q i arg2 harg2 arg5 harg5 arg0 v0 k0_h2 _ k acc
    · isplitl [HC]; · iexact HC
      isplitl [HS]; · iexact HS
      iexact HT
    iintro %acc ⟨HC, HS, HT⟩
    iapply Hk
    rw [show 8 * Scf.trips k0_t2_loop.lb k0_t2_loop.ub k0_t2_loop.st = 128 from by decide]
    ihave HC := (issC_all tb cd c _ _) $$ HC
    ihave HS := (issS_all tb sc c _ _) $$ HS
    isplitl [HC HRC HS HRS]
    · unfold flight
      isplitl [HC HRC]
      · isplitl [HC]; · iexact HC
        iexact HRC
      · isplitl [HS]; · iexact HS
        iexact HRS
    iexact HT
  · have k0_h2 : ¬ k0_cond2 i = 1#1 := fun h => h0 ((cond2_iff i).mp h)
    unfold nextAt
    rw [if_neg h0]
    iintro ⟨HI, HT⟩ Hk
    sl_open_parts
    sl_exec
    iapply Hk
    isplitl [HI]; · iexact HI
    iexact HT

/-- The draining loop waits until the point's own rows have arrived. -/
theorem part14 (c0 c1 : BitVec 32) (f : PUnit → Prog (TpuEff nD τ sig (Elt F) Λ₀ .tc) α) :
    iprop(flight tb cd sc c ((i 0).val % 2) (i 0).val ∗ ∃ W, owes (c : Thread nD τ) 0 W) ⊢
      iprop(((ready tb cd sc c ((i 0).val % 2) (i 0).val ∗ ∃ W, owes (c : Thread nD τ) 0 W)
          -∗ wp frame (wpE defs₀ Variants.none (c : Thread nD τ) none) Set.univ (f ⟨⟩) Q)
        -∗ wp frame (wpE defs₀ Variants.none (c : Thread nD τ) none) Set.univ
          (k0_part14 (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3 c0 c1 >>= f) Q) := by
  unfold flight
  iintro ⟨⟨⟨HC, HRC⟩, HS, HRS⟩, HO⟩ Hk
  sl_open_parts
  sl_rw [bind_assoc]
  sl_for (fun k _ => iprop(runC tb cd c ((i 0).val % 2) (i 0).val 128 (k * unitC) ∗ runS tb sc c ((i 0).val % 2) (i 0).val 128 (k * unitS)
      ∗ ∃ W, owes (c : Thread nD τ) 0 W)) $$ [HC HS HO]
  · intro k acc
    exact step3 tb cd sc c (i 0).val i arg2 harg2 arg5 harg5 c0 c1 k acc
  · rw [Nat.zero_mul, Nat.zero_mul]
    isplitl [HC]; · iexact HC
    isplitl [HS]; · iexact HS
    iexact HO
  iintro %acc ⟨HC, HS, HO⟩
  rw [show Scf.trips k0_t3_loop.lb k0_t3_loop.ub k0_t3_loop.st = 128 from by decide]
  imod (end_drain tb cd sc c ((i 0).val % 2) (i 0).val) $$ [HC HRC HS HRS] with HR
  · isplitl [HC HRC]
    · isplitl [HC]; · iexact HC
      iexact HRC
    · isplitl [HS]; · iexact HS
      iexact HRS
  iapply Hk
  isplitl [HR]; · iexact HR
  iexact HO

end Parts
end Cert.Kernel.Proof

end
-- ==== Proof.KernelBody.lean ====
/-
  The kernel's body at one grid point: what it loads, what it stores, and the state it leaves for the next point.
-/
module

public import proofs.«01_k».proof.Proof.KernelSlots
public import Idealize.ShloMosaic.Lib.VecWindow

@[expose] public section

set_option maxRecDepth 16384

noncomputable section

namespace Cert.Kernel.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.RowBatch (deliv todo running issuing rest)

variable {F : FTy → Type} [FloatOps F]

local notation "𝕄" => MT nD τ sig Unit (Elt F) ℕ (Pipeline.UD sig nD τ) ℕ

variable (tb : S2048.Idx → Elt F .i32) (cd : S16000x2048.Idx → Elt F .i32) (sc : S32000x128.Idx → Elt F .i32)

/-! ## The parts that touch no memory -/

theorem part9 (i : grid0.Coords) (arg2 : Memref sig .tc .vmem S128x1 .i32) (harg2 : arg2.IsWhole) (arg5 : Memref sig .tc .vmem S128x4096 .bf16)
    (harg5 : arg5.IsWhole) {α : Type} (f : (Σ' (arg0 : BitVec 32), BitVec 32) → Prog (TpuEff nD τ sig (Elt F) Λ₀ .tc) α) :
    (k0_part9 (F := F) i tblM (Memref.isWhole_whole _) arg2 harg2 srcC (Memref.isWhole_whole _) srcS (Memref.isWhole_whole _) arg5 harg5 bufC (Memref.isWhole_whole _) bufS (Memref.isWhole_whole _) cc0_scratch2 cc0_scratch3 >>= f)
      = f ⟨BitVec.ofNat 32 (i 0).val, Scalar.remsi (BitVec.ofNat 32 (i 0).val) 2#32⟩ := rfl
theorem part11 (i : grid0.Coords) (arg2 : Memref sig .tc .vmem S128x1 .i32) (harg2 : arg2.IsWhole) (arg5 : Memref sig .tc .vmem S128x4096 .bf16)
    (harg5 : arg5.IsWhole) (arg0 : BitVec 32) {α : Type} (f : PUnit → Prog (TpuEff nD τ sig (Elt F) Λ₀ .tc) α) :
    (k0_part11 (F := F) i tblM (Memref.isWhole_whole _) arg2 harg2 srcC (Memref.isWhole_whole _) srcS (Memref.isWhole_whole _) arg5 harg5 bufC (Memref.isWhole_whole _) bufS (Memref.isWhole_whole _) cc0_scratch2 cc0_scratch3 arg0 >>= f) = f ⟨⟩ := rfl
theorem part13 (i : grid0.Coords) (arg2 : Memref sig .tc .vmem S128x1 .i32) (harg2 : arg2.IsWhole) (arg5 : Memref sig .tc .vmem S128x4096 .bf16)
    (harg5 : arg5.IsWhole) {α : Type} (f : (Σ' (arg0 : BitVec 32), BitVec 32) → Prog (TpuEff nD τ sig (Elt F) Λ₀ .tc) α) :
    (k0_part13 (F := F) i tblM (Memref.isWhole_whole _) arg2 harg2 srcC (Memref.isWhole_whole _) srcS (Memref.isWhole_whole _) arg5 harg5 bufC (Memref.isWhole_whole _) bufS (Memref.isWhole_whole _) cc0_scratch2 cc0_scratch3 >>= f) = f ⟨0#32, 1#32⟩ := rfl

/-! ## What the body loads and stores -/

section Loads

/-- The scale words and the `j`-th column chunk of the code words of grid point `p`, as the kernel loads them. -/
def scalesAt (p : ℕ) : Vec F S1x128x128 .i32 := fun y => sc (cS (rwS tb (128 * p + (y 1).val)) (y 2).val)
def codesAt (p j : ℕ) : Vec F S1x128x128 .i32 := fun y => cd (cC (rwC tb (128 * p + (y 1).val)) (128 * j + (y 2).val))

variable (c : Dev nD) {α : Type} {Q : α → sProp (MT nD τ sig Unit (Elt F) ℕ (Pipeline.UD sig nD τ) ℕ)}

/-- A load of a column chunk of the filled slot of code words reads `codesAt`. -/
theorem loadC {s p : ℕ} (j : ℕ) {off : Fin 3 → ℕ} {h : ∀ a, off a + S1x128x128.size a ≤ S2x128x2048.size a}
    {hl : bufC.view.LoadsAt (Rect.unit (s := S2x128x2048) off S1x128x128.size h).toLoadRect}
    {k : Vec F S1x128x128 .i32 → Prog (TpuEff nD τ sig (Elt F) Λ₀ .tc) α} (e : off = ![s, 0, 128 * j]) :
    (bufC.view.loc (c : Thread nD τ) ↦[slotC s]{fullShare} valC tb cd p)
      ⊢ iprop(((bufC.view.loc (c : Thread nD τ) ↦[slotC s]{fullShare} valC tb cd p)
          -∗ wp frame (wpE defs₀ Variants.none (c : Thread nD τ) none) Set.univ (k (codesAt tb cd p j)) Q)
        -∗ wp frame (wpE defs₀ Variants.none (c : Thread nD τ) none) Set.univ
          (.op (.load bufC (Rect.unit (s := S2x128x2048) off S1x128x128.size h).toLoadRect hl) k) Q) := by
  subst e
  have hv : bufC.view.readAt (Elt F) (Rect.unit (s := S2x128x2048) ![s, 0, 128 * j] S1x128x128.size h).toLoadRect (valC tb cd p) = codesAt tb cd p j := by
    refine funext fun y => ?_
    show cd (cC (rwC tb (128 * p + (0 + 1 * (y 1).val))) (128 * j + 1 * (y 2).val)) = _
    rw [Nat.zero_add, Nat.one_mul, Nat.one_mul]; rfl
  rw [← hv]
  refine Idealize.ShloMosaic.wp_load Variants.none (c : Thread nD τ) none Set.univ fun y hy => ?_
  obtain ⟨x, hx, rfl⟩ := Finset.mem_map.mp hy
  have h0 := (Rect.mem_set_unit (s := S2x128x2048)).mp hx 0
  refine Finset.mem_filter.mpr ⟨Finset.mem_univ _, ?_⟩
  change s ≤ (x 0).val ∧ (x 0).val < s + 1 at h0
  show (x 0).val = s
  omega

/-- The load of the filled slot of scale words reads `scalesAt`. -/
theorem loadS {s p : ℕ} {off : Fin 3 → ℕ} {h : ∀ a, off a + S1x128x128.size a ≤ S2x128x128.size a}
    {hl : bufS.view.LoadsAt (Rect.unit (s := S2x128x128) off S1x128x128.size h).toLoadRect}
    {k : Vec F S1x128x128 .i32 → Prog (TpuEff nD τ sig (Elt F) Λ₀ .tc) α} (e : off = ![s, 0, 0]) :
    (bufS.view.loc (c : Thread nD τ) ↦[slotS s]{fullShare} valS tb sc p)
      ⊢ iprop(((bufS.view.loc (c : Thread nD τ) ↦[slotS s]{fullShare} valS tb sc p)
          -∗ wp frame (wpE defs₀ Variants.none (c : Thread nD τ) none) Set.univ (k (scalesAt tb sc p)) Q)
        -∗ wp frame (wpE defs₀ Variants.none (c : Thread nD τ) none) Set.univ
          (.op (.load bufS (Rect.unit (s := S2x128x128) off S1x128x128.size h).toLoadRect hl) k) Q) := by
  subst e
  have hv : bufS.view.readAt (Elt F) (Rect.unit (s := S2x128x128) ![s, 0, 0] S1x128x128.size h).toLoadRect (valS tb sc p) = scalesAt tb sc p := by
    refine funext fun y => ?_
    show sc (cS (rwS tb (128 * p + (0 + 1 * (y 1).val))) (0 + 1 * (y 2).val)) = _
    rw [Nat.zero_add, Nat.zero_add, Nat.one_mul, Nat.one_mul]; rfl
  rw [← hv]
  refine Idealize.ShloMosaic.wp_load Variants.none (c : Thread nD τ) none Set.univ fun y hy => ?_
  obtain ⟨x, hx, rfl⟩ := Finset.mem_map.mp hy
  have h0 := (Rect.mem_set_unit (s := S2x128x128)).mp hx 0
  refine Finset.mem_filter.mpr ⟨Finset.mem_univ _, ?_⟩
  change s ≤ (x 0).val ∧ (x 0).val < s + 1 at h0
  show (x 0).val = s
  omega

/-- The slot a point reads is its parity. -/
theorem slot_eq (i : grid0.Coords) : (Scalar.indexCast (Scalar.remsi (BitVec.ofNat 32 (i 0).val) 2#32)).toNat = (i 0).val % 2 := by
  have h : ∀ n : ℕ, n < 16 → (Scalar.indexCast (Scalar.remsi (BitVec.ofNat 32 n) 2#32)).toNat = n % 2 := by decide
  exact h _ (i 0).isLt

end Loads

section Chunk

/-- The scales the kernel decodes from the ids' parities and the scale words. -/
def scal (x2 : Vec F S128x1 .i32) (w : Vec F S1x128x128 .i32) : FVec F S128x128 .f32 :=
  k0_pay10 (k0_pay5 x2 w) (k0_pay6 x2 w) (k0_pay7 x2 w) (k0_pay8 x2 w) (k0_pay9 x2 w) 2139095040#32

/-- Lane `l` reads group `l / 16 + o`, as the kernel computes it. -/
def groupIx (o : BitVec 32) : IVec S128x128 32 :=
  let lane : IVec S128x128 32 := iota .tc S128x128 32 [1] iota_S128x128_d1_w32
  let quot : IVec S128x128 32 := divsi lane (broadcast S128x128 16#32)
  let sign : IVec S128x128 32 := subi (extui 32 (cmpi .sgt lane (broadcast S128x128 0#32)) natLt_1_32) (extui 32 (cmpi .slt lane (broadcast S128x128 0#32)) natLt_1_32)
  let differ : IVec S128x128 1 := andi (cmpi .ne sign (broadcast S128x128 (Scalar.subi (Scalar.extui (Scalar.cmpi .sgt 16#32 0#32)) (Scalar.extui (Scalar.cmpi .slt 16#32 0#32)))))
    (cmpi .ne (remsi lane (broadcast S128x128 16#32)) (broadcast S128x128 0#32))
  let floor : IVec S128x128 32 := select differ (subi quot (broadcast S128x128 1#32)) quot
  let g : IVec S128x128 32 := addi floor (broadcast S128x128 o)
  let wrapped : IVec S128x128 32 := select (cmpi .slt g (broadcast S128x128 0#32)) (addi g (broadcast S128x128 128#32)) g
  shapeCast S128x128 (shapeCast S128x128x1 wrapped shapeCasts_S128x128_S128x128x1) shapeCasts_S128x128x1_S128x128

/-- A nibble, less 8, times its scale, rounded to bf16. -/
def nibble (w : IVec S128x128 32) (s : FVec F S128x128 .f32) : FVec F S128x128 .bf16 :=
  truncf .bf16 (mulf (sitofp .f32 (subi (andi w (broadcast S128x128 15#32)) (broadcast S128x128 8#32))) s) bitsLt_bf16_f32

/-- One column chunk of a result block: the 256 columns of 128 code words per token, from the ids, the scale words and the code words. -/
def chunk (x2 : Vec F S128x1 .i32) (sw : Vec F S1x128x128 .i32) (o : BitVec 32) (cw : Vec F S1x128x128 .i32) : FVec F S128x256 .bf16 :=
  let w : IVec S128x128 32 := shrui (shapeCast S128x128 cw shapeCasts_S1x128x128_S128x128) (k0_pay11 (k0_pay3 x2))
  let s : FVec F S128x128 .f32 := dynamicGather 1 (scal x2 sw) (groupIx o)
  truncf .bf16 (matmul dot_S128x256_S256x256_S128x256_1_0_0_1_n_n none
    (concatenate S128x256 1 [⟨S128x128, nibble w s⟩, ⟨S128x128, nibble (shrui w (broadcast S128x128 4#32)) s⟩] concatenates_S128x128_S128x128_S128x256_d1)
    (k0_pay12 (F := F)) (constant S128x256 .f32 0x00000000#32)) bitsLt_bf16_f32

/-- A chunk lies inside the result block. -/
theorem inb_chunk (j : ℕ) (hj : j < 16) : ∀ a, (![0, 256 * j] : Fin 2 → ℕ) a + S128x256.size a ≤ S128x4096.size a := by
  intro a; fin_cases a
  · show 0 + 128 ≤ 128; omega
  · show 256 * j + 256 ≤ 4096; omega

/-- Chunk `j` of the result block of grid point `p`, as a piece of the block. -/
def piece (x2 : Vec F S128x1 .i32) (p : ℕ) (j : ℕ) (hj : j < 16) : View.Piece (Elt F) S128x4096 .bf16 :=
  ⟨Rect.unit (s := S128x4096) ![0, 256 * j] S128x256.size (inb_chunk j hj), chunk x2 (scalesAt tb sc p) (BitVec.ofNat 32 (8 * j)) (codesAt tb cd p j)⟩

/-- The result block of grid point `p`. -/
def outBlk (x2 : Vec F S128x1 .i32) (p : ℕ) : Vec F S128x4096 .bf16 :=
  View.canon (List.ofFn fun j : Fin 16 => piece tb cd sc x2 p (15 - j.val) (by omega))

/-- A block whose last writes were the sixteen chunks reads as the result block. -/
theorem read_pieces {sp : Space} (v : View sig .tc sp S128x4096 .bf16) (f : v.ty.Contents (Elt F)) (x2 : Vec F S128x1 .i32) (p : ℕ)
    (L : List (View.Piece (Elt F) S128x4096 .bf16)) (e : L = List.ofFn fun j : Fin 16 => piece tb cd sc x2 p (15 - j.val) (by omega)) :
    v.read (Elt F) (v.writes (Elt F) f L) = outBlk tb cd sc x2 p := by
  subst e
  refine View.read_writes_eq_canon _ _ _ fun y => ?_
  have h0 : (y 0).val < 128 := (y 0).isLt
  have h1 : (y 1).val < 4096 := (y 1).isLt
  refine ⟨_, (List.mem_ofFn).mpr ⟨⟨15 - (y 1).val / 256, by omega⟩, rfl⟩, ?_⟩
  show y ∈ (Rect.unit (s := S128x4096) ![0, 256 * (15 - (15 - (y 1).val / 256))] S128x256.size (inb_chunk _ (by omega))).set
  refine Rect.mem_set_unit.mpr fun a => ?_
  fin_cases a
  · show 0 ≤ (y 0).val ∧ (y 0).val < 0 + 128; omega
  · show 256 * (15 - (15 - (y 1).val / 256)) ≤ (y 1).val ∧ (y 1).val < 256 * (15 - (15 - (y 1).val / 256)) + 256; omega

end Chunk

set_option maxHeartbeats 1000000 in
/-- THE BODY at grid point `i`: from the slots as the point finds them, the ids table, the point's ids block and any contents of
    the result block, to the slots as the next point finds them and the result block at `outBlk`. -/
theorem body (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    (x2 : Vec F S128x1 .i32) (K : PUnit → sProp (MT nD τ sig Unit (Elt F) ℕ (Pipeline.UD sig nD τ) ℕ)) :
    iprop(stateAt tb cd sc c (i 0).val ∗ (tblM.view.loc (c : Thread nD τ) ↦{q} tb) ∗ (∃ W, owes (c : Thread nD τ) 0 W)
      ∗ owns (c : Thread nD τ) arg2 fullShare x2 ∗ (∃ d, owns (c : Thread nD τ) arg5 fullShare d)
      ∗ (iprop(stateAt tb cd sc c ((i 0).val + 1) ∗ (tblM.view.loc (c : Thread nD τ) ↦{q} tb) ∗ (∃ W, owes (c : Thread nD τ) 0 W)
          ∗ owns (c : Thread nD τ) arg2 fullShare x2 ∗ owns (c : Thread nD τ) arg5 fullShare (outBlk tb cd sc x2 (i 0).val)) -∗ K ⟨⟩))
      ⊢ wp frame (wpE (defs₀ (F := F)) Variants.none (c : Thread nD τ) none) Set.univ
        (cc0_q4_embed (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3) K := by
  simp only [cc0_q4_embed_eq_skeleton]; unfold cc0_q4_embed_skel
  simp only [k0_part37_eq_skeleton]; unfold k0_part37_skel
  unfold owns
  iintro ⟨HS, HT, HO, ⟨%f2, %hf2, H2⟩, ⟨%d5, %f5, -, H5⟩, Hk⟩
  subst hf2
  sl_rw [bind_assoc]
  sl_rw [part9]
  beta_reduce
  sl_rw [bind_assoc]
  iapply (part10 tb cd sc hid c q i arg2 harg2 arg5 harg5 _) $$ [HS HT]
  · isplitl [HS]; · iexact HS
    iexact HT
  iintro ⟨HS, HI, HT⟩
  beta_reduce
  sl_rw [bind_assoc]
  sl_rw [part11]
  beta_reduce
  sl_rw [bind_assoc]
  iapply (part12 tb cd sc hid c q i arg2 harg2 arg5 harg5 _ _ _) $$ [HI HT]
  · isplitl [HI]; · iexact HI
    iexact HT
  iintro ⟨HN, HT⟩
  beta_reduce
  sl_rw [bind_assoc]
  sl_rw [part13]
  beta_reduce
  sl_rw [bind_assoc]
  iapply (part14 tb cd sc c i arg2 harg2 arg5 harg5 _ _ _) $$ [HS HO]
  · isplitl [HS]; · iexact HS
    iexact HO
  iintro ⟨HR, HO⟩
  unfold ready
  icases HR with ⟨⟨HC1, HC2, HC3⟩, HS1, HS2, HS3⟩
  beta_reduce
  sl_exec
  iapply (loadS tb sc c (congrArg (fun k => ![k, 0, 0]) (slot_eq i))) $$ HS2
  iintro HS2
  beta_reduce
  sl_exec
  iapply (loadC tb cd c 0 (congrArg (fun k => ![k, 0, 0]) (slot_eq i))) $$ HC2
  iintro HC2
  beta_reduce
  sl_exec
  iapply (loadC tb cd c 1 (congrArg (fun k => ![k, 0, 128]) (slot_eq i))) $$ HC2
  iintro HC2
  beta_reduce
  sl_exec
  iapply (loadC tb cd c 2 (congrArg (fun k => ![k, 0, 256]) (slot_eq i))) $$ HC2
  iintro HC2
  beta_reduce
  sl_exec
  iapply (loadC tb cd c 3 (congrArg (fun k => ![k, 0, 384]) (slot_eq i))) $$ HC2
  iintro HC2
  beta_reduce
  sl_exec
  iapply (loadC tb cd c 4 (congrArg (fun k => ![k, 0, 512]) (slot_eq i))) $$ HC2
  iintro HC2
  beta_reduce
  sl_exec
  iapply (loadC tb cd c 5 (congrArg (fun k => ![k, 0, 640]) (slot_eq i))) $$ HC2
  iintro HC2
  beta_reduce
  sl_exec
  iapply (loadC tb cd c 6 (congrArg (fun k => ![k, 0, 768]) (slot_eq i))) $$ HC2
  iintro HC2
  beta_reduce
  sl_exec
  iapply (loadC tb cd c 7 (congrArg (fun k => ![k, 0, 896]) (slot_eq i))) $$ HC2
  iintro HC2
  beta_reduce
  sl_exec
  iapply (loadC tb cd c 8 (congrArg (fun k => ![k, 0, 1024]) (slot_eq i))) $$ HC2
  iintro HC2
  beta_reduce
  sl_exec
  iapply (loadC tb cd c 9 (congrArg (fun k => ![k, 0, 1152]) (slot_eq i))) $$ HC2
  iintro HC2
  beta_reduce
  sl_exec
  iapply (loadC tb cd c 10 (congrArg (fun k => ![k, 0, 1280]) (slot_eq i))) $$ HC2
  iintro HC2
  beta_reduce
  sl_exec
  iapply (loadC tb cd c 11 (congrArg (fun k => ![k, 0, 1408]) (slot_eq i))) $$ HC2
  iintro HC2
  beta_reduce
  sl_exec
  iapply (loadC tb cd c 12 (congrArg (fun k => ![k, 0, 1536]) (slot_eq i))) $$ HC2
  iintro HC2
  beta_reduce
  sl_exec
  iapply (loadC tb cd c 13 (congrArg (fun k => ![k, 0, 1664]) (slot_eq i))) $$ HC2
  iintro HC2
  beta_reduce
  sl_exec
  iapply (loadC tb cd c 14 (congrArg (fun k => ![k, 0, 1792]) (slot_eq i))) $$ HC2
  iintro HC2
  beta_reduce
  sl_exec
  iapply (loadC tb cd c 15 (congrArg (fun k => ![k, 0, 1920]) (slot_eq i))) $$ HC2
  iintro HC2
  beta_reduce
  sl_exec
  sl_step
  iapply Hk
  isplitl [HC1 HC2 HC3 HS1 HS2 HS3 HN]
  · iapply (state_next tb cd sc c _ (i 0).isLt)
    isplitr [HN]
    · unfold ready
      isplitl [HC1 HC2 HC3]
      · isplitl [HC1]; · iexact HC1
        isplitl [HC2]; · iexact HC2
        iexact HC3
      · isplitl [HS1]; · iexact HS1
        isplitl [HS2]; · iexact HS2
        iexact HS3
    iexact HN
  isplitl [HT]; · iexact HT
  isplitl [HO]; · iexact HO
  isplitl [H2]
  · iexists f2; isplitr; · ipureintro; rfl
    iexact H2
  iexists _; isplitr
  swap; · iexact H5
  ipureintro
  refine (read_pieces tb cd sc _ _ (arg2.view.readAt (Elt F) (Rect.unit (s := S128x1) ![0, 0] S128x1.size inb_S128x1_S128x1_0_0).toLoadRect f2) (i 0).val _ ?_).trans
    (congrArg (fun x => outBlk tb cd sc x (i 0).val) (View.readAt_full _ _ _))
  sl_unfold_run_names
  refine congrArg₂ List.cons ?_ ?_
  · rfl
  repeat' refine congrArg₂ List.cons ?_ ?_
  all_goals rfl

end Cert.Kernel.Proof

end
-- ==== Proof.KernelFrame.lean ====
/-
  The kernel's launch: from the body at one grid point to the whole program's run, and the frame.
-/
module

public import proofs.«01_k».proof.Proof.KernelBody

@[expose] public section

set_option maxRecDepth 16384

noncomputable section

namespace Cert.Kernel.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (Dat BodyObligation)

variable {F : FTy → Type} [FloatOps F]

local notation "𝕄" => MT nD τ sig Unit (Elt F) ℕ (Pipeline.UD sig nD τ) ℕ

section

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region is its host operations. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The prefetched table -/

/-- The table's contents when the region is entered (there is one device: device 0's). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so any contents are admissible. -/
abbrev adm : (pcfg0 (F := F)).Adm := ⟨tbl m, trivial⟩
abbrev cfgM : Pipeline.Cfg sig Λ₀ := cfg0 (adm m)
/-- The half of the table that the region hands the body. -/
theorem PhiT0_eq (c : Dev nD) : (Pipeline.ΦT pre0 (tbl m) c : sProp 𝕄) = iprop(tblM.view.loc (c : Thread nD τ) ↦{fullShare.right} V m c main_v0) := by
  obtain rfl : c = 0 := Subsingleton.elim _ _
  unfold Pipeline.ΦT Pipeline.prefHeld
  rw [show (Finset.univ : Finset (Fin 1)) = {(0 : Fin 1)} from by decide, bigSep_singleton]
  rfl

/-! ## What the region holds between points -/

/-- The body's own semaphores, and the operands it copies from. -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (semC 0)) 0 ∗ semVal ((c : Thread nD τ), .dma (semC 1)) 0
          ∗ semVal ((c : Thread nD τ), .dma (semS 0)) 0 ∗ semVal ((c : Thread nD τ), .dma (semS 1)) 0) := by
  rw [Pipeline.ownSems0_eq_of_list c osem0 [0, 1, 2, 3] (by decide) (by decide)]; rfl
def H0 : Finset (Ref sig .tc) := {main_v3, main_v6}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((srcC.view.loc (c : Thread nD τ) ↦{fullShare} V m c main_v3) ∗ (srcS.view.loc (c : Thread nD τ) ↦{fullShare} V m c main_v6)) := by
  rw [BI.bigSep_eq_bigSepL_of_eq [main_v3, main_v6] (by decide) (by decide)]; rfl

/-- What the region holds before point `n`: the slots, the table, the generator's register, and what is left of the
    sources' shares. -/
def held (c : Dev nD) (n : ℕ) : sProp 𝕄 :=
  iprop(stateAt (V m c main_v0) (V m c main_v3) (V m c main_v6) c n ∗ (tblM.view.loc (c : Thread nD τ) ↦{fullShare.right} V m c main_v0)
    ∗ (∃ r, prngReg c r)
    ∗ (srcC.view.loc (c : Thread nD τ) ↦{Transfers.shareDrop fullShare 2} V m c main_v3)
    ∗ (srcS.view.loc (c : Thread nD τ) ↦{Transfers.shareDrop fullShare 2} V m c main_v6))

/-- The two slots are disjoint and make up each scratch. -/
theorem slotC_disjoint : Disjoint (slotC 0) (slotC 1) := Finset.disjoint_left.mpr fun y h h' => by
  have h := (Finset.mem_filter.mp h).2; have h' := (Finset.mem_filter.mp h').2; omega
theorem slotS_disjoint : Disjoint (slotS 0) (slotS 1) := Finset.disjoint_left.mpr fun y h h' => by
  have h := (Finset.mem_filter.mp h).2; have h' := (Finset.mem_filter.mp h').2; omega
theorem slotC_cover : slotC 0 ∪ slotC 1 = Finset.univ := Finset.ext fun y => by
  have : (y 0).val < 2 := (y 0).isLt
  simp only [slotC, Finset.mem_union, Finset.mem_filter, Finset.mem_univ, true_and, iff_true]; omega
theorem slotS_cover : slotS 0 ∪ slotS 1 = Finset.univ := Finset.ext fun y => by
  have : (y 0).val < 2 := (y 0).isLt
  simp only [slotS, Finset.mem_union, Finset.mem_filter, Finset.mem_univ, true_and, iff_true]; omega

/-- A scratch is its two slots, at some contents each. -/
theorem scratchC (c : Dev nD) : (iprop(∃ f : Buf (Elt F) ((c : Thread nD τ).loc cc0_scratch0), ((c : Thread nD τ).loc cc0_scratch0) ↦{fullShare} f) : sProp 𝕄)
    ⊣⊢ iprop((∃ f, bufC.view.loc (c : Thread nD τ) ↦[slotC 0]{fullShare} f) ∗ (∃ f, bufC.view.loc (c : Thread nD τ) ↦[slotC 1]{fullShare} f)) := by
  constructor
  · iintro ⟨%f, H⟩
    ihave H' := ((pointsTo_union (Val := Elt F) (ℓ := bufC.view.loc (c : Thread nD τ)) (q := fullShare) (f := f) slotC_disjoint).1) $$ [H]
    · rw [slotC_cover]; iexact H
    icases H' with ⟨H0, H1⟩
    isplitl [H0]; · iexists f; iexact H0
    iexists f; iexact H1
  · iintro ⟨⟨%f, H0⟩, %g, H1⟩
    ihave H' := (pointsTo_join (Val := Elt F) (ℓ := bufC.view.loc (c : Thread nD τ)) (q := fullShare) (f := f) (g := g) slotC_disjoint) $$ [H0 H1]
    · isplitl [H0]; · iexact H0
      iexact H1
    rw [slotC_cover]
    iexists _; iexact H'
theorem scratchS (c : Dev nD) : (iprop(∃ f : Buf (Elt F) ((c : Thread nD τ).loc cc0_scratch1), ((c : Thread nD τ).loc cc0_scratch1) ↦{fullShare} f) : sProp 𝕄)
    ⊣⊢ iprop((∃ f, bufS.view.loc (c : Thread nD τ) ↦[slotS 0]{fullShare} f) ∗ (∃ f, bufS.view.loc (c : Thread nD τ) ↦[slotS 1]{fullShare} f)) := by
  constructor
  · iintro ⟨%f, H⟩
    ihave H' := ((pointsTo_union (Val := Elt F) (ℓ := bufS.view.loc (c : Thread nD τ)) (q := fullShare) (f := f) slotS_disjoint).1) $$ [H]
    · rw [slotS_cover]; iexact H
    icases H' with ⟨H0, H1⟩
    isplitl [H0]; · iexists f; iexact H0
    iexists f; iexact H1
  · iintro ⟨⟨%f, H0⟩, %g, H1⟩
    ihave H' := (pointsTo_join (Val := Elt F) (ℓ := bufS.view.loc (c : Thread nD τ)) (q := fullShare) (f := f) (g := g) slotS_disjoint) $$ [H0 H1]
    · isplitl [H0]; · iexact H0
      iexact H1
    rw [slotS_cover]
    iexists _; iexact H'

/-- A full share is one part for each slot and what is left. -/
theorem shares (ℓ : Loc nD τ sig) (f : Buf (Elt F) ℓ) : (ℓ ↦{fullShare} f : sProp 𝕄)
    ⊣⊢ iprop((ℓ ↦{shareAt 0} f) ∗ (ℓ ↦{shareAt 1} f) ∗ (ℓ ↦{Transfers.shareDrop fullShare 2} f)) := by
  have h1 : (ℓ ↦{fullShare} f : sProp 𝕄) ⊣⊢ iprop((ℓ ↦{Transfers.shareDrop fullShare 1} f) ∗ ℓ ↦{shareAt 0} f) :=
    pointsTo_share (PosShare.mem_left_op_right _)
  have h2 : (ℓ ↦{Transfers.shareDrop fullShare 1} f : sProp 𝕄) ⊣⊢ iprop((ℓ ↦{Transfers.shareDrop fullShare 2} f) ∗ ℓ ↦{shareAt 1} f) :=
    pointsTo_share (PosShare.mem_left_op_right _)
  constructor
  · refine h1.1.trans ((sep_mono_left h2.1).trans ?_)
    iintro ⟨⟨Hd, H1⟩, H0⟩
    isplitl [H0]; · iexact H0
    isplitl [H1]; · iexact H1
    iexact Hd
  · refine BIBase.Entails.trans ?_ ((sep_mono_left h2.2).trans h1.2)
    iintro ⟨H0, H1, Hd⟩
    isplitl [H1 Hd]
    · isplitl [Hd]; · iexact Hd
      iexact H1
    iexact H0

/-- The slots at rest are the scratches at some contents, the semaphores at zero and the slots' shares of the sources. -/
theorem rest_iff (c : Dev nD) : (Pipeline.ΦD osem0 spec0 H0 (V m) c : sProp 𝕄)
    ⊣⊢ iprop((idle (V m c main_v3) (V m c main_v6) c 0 ∗ idle (V m c main_v3) (V m c main_v6) c 1)
      ∗ (∃ r, prngReg c r)
      ∗ (srcC.view.loc (c : Thread nD τ) ↦{Transfers.shareDrop fullShare 2} V m c main_v3)
      ∗ (srcS.view.loc (c : Thread nD τ) ↦{Transfers.shareDrop fullShare 2} V m c main_v6)) := by
  rw [Pipeline.ΦD_eq, scopedRest0_eq, ownSems00_eq, hbmPts0_eq]
  unfold idle
  constructor
  · iintro ⟨⟨Hb, Hs⟩, Hr, ⟨Q0, Q1, Q2, Q3⟩, HC, HS⟩
    icases (scratchC c).1 $$ Hb with ⟨Hb0, Hb1⟩
    icases (scratchS c).1 $$ Hs with ⟨Hs0, Hs1⟩
    icases (shares (srcC.view.loc (c : Thread nD τ)) _).1 $$ HC with ⟨HC0, HC1, HC⟩
    icases (shares (srcS.view.loc (c : Thread nD τ)) _).1 $$ HS with ⟨HS0, HS1, HS⟩
    isplitl [Hb0 Hs0 Hb1 Hs1 Q0 Q1 Q2 Q3 HC0 HC1 HS0 HS1]
    · isplitl [Q0 Hb0 HC0 Q2 Hs0 HS0]
      · isplitl [Q0 Hb0 HC0]
        · isplitl [Q0]; · iexact Q0
          isplitl [Hb0]; · iexact Hb0
          iexact HC0
        · isplitl [Q2]; · iexact Q2
          isplitl [Hs0]; · iexact Hs0
          iexact HS0
      · isplitl [Q1 Hb1 HC1]
        · isplitl [Q1]; · iexact Q1
          isplitl [Hb1]; · iexact Hb1
          iexact HC1
        · isplitl [Q3]; · iexact Q3
          isplitl [Hs1]; · iexact Hs1
          iexact HS1
    isplitl [Hr]; · iexact Hr
    isplitl [HC]; · iexact HC
    iexact HS
  · iintro ⟨⟨⟨⟨Q0, Hb0, HC0⟩, Q2, Hs0, HS0⟩, ⟨Q1, Hb1, HC1⟩, Q3, Hs1, HS1⟩, Hr, HC, HS⟩
    isplitl [Hb0 Hb1 Hs0 Hs1]
    · isplitl [Hb0 Hb1]
      · iapply (scratchC c).2
        isplitl [Hb0]; · iexact Hb0
        iexact Hb1
      · iapply (scratchS c).2
        isplitl [Hs0]; · iexact Hs0
        iexact Hs1
    isplitl [Hr]; · iexact Hr
    isplitl [Q0 Q1 Q2 Q3]
    · isplitl [Q0]; · iexact Q0
      isplitl [Q1]; · iexact Q1
      isplitl [Q2]; · iexact Q2
      iexact Q3
    isplitl [HC0 HC1 HC]
    · iapply (shares (srcC.view.loc (c : Thread nD τ)) _).2
      isplitl [HC0]; · iexact HC0
      isplitl [HC1]; · iexact HC1
      iexact HC
    · iapply (shares (srcS.view.loc (c : Thread nD τ)) _).2
      isplitl [HS0]; · iexact HS0
      isplitl [HS1]; · iexact HS1
      iexact HS

/-- At the region's entry and exit both slots are at rest. -/
theorem state_ends (c : Dev nD) {n : ℕ} (h : n = 0 ∨ n = 16) : (stateAt (V m c main_v0) (V m c main_v3) (V m c main_v6) c n : sProp 𝕄)
    = iprop(idle (V m c main_v3) (V m c main_v6) c 0 ∗ idle (V m c main_v3) (V m c main_v6) c 1) := by
  unfold stateAt; rw [if_pos h]

/-! ## The proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The result block at point `t`. -/
def outAt (c : Dev nD) (t : Fin (cfgM m).N) : Vec F S128x4096 .bf16 :=
  outBlk (V m c main_v0) (V m c main_v3) (V m c main_v6) (iblk m c 0 t) (grid0.coords t 0).val

/-- What each window's staging buffer holds after the body, and what the region holds between points. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m c t
    | ⟨_ + 2, h⟩ => absurd h (Nat.not_lt.2 (Nat.le_add_left _ _))
  Φ t := held m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := rfl
theorem after0_1 (c : Dev nD) (t : Fin (cfgM m).N) : (dats m 0 c).after 1 t = outAt m c t := rfl
theorem Phi_eq (c : Dev nD) (t : Fin ((cfgM m).N + 1)) : (dats m 0 c).Φ t = held m c t.val := by dsimp only [dats]
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body at every point -/

abbrev ms0_0 (t : Fin (cfgM m).N) : Memref sig .tc .vmem S128x1 .i32 := spec0_0.stage ((cfgM m).slots t 0)
abbrev hs0_0 (t : Fin (cfgM m).N) : (ms0_0 m t).IsWhole := hstage0_0 ((cfgM m).slots t 0)
abbrev ms0_1 (t : Fin (cfgM m).N) : Memref sig .tc .vmem S128x4096 .bf16 := spec0_1.stage ((cfgM m).slots t 1)
abbrev hs0_1 (t : Fin (cfgM m).N) : (ms0_1 m t).IsWhole := hstage0_1 ((cfgM m).slots t 1)

/-- The body at point `t`, on what the pipeline calls it with. -/
abbrev bodyAt0 (t : Fin (cfgM m).N) : Prog (TpuEff nD τ sig (Elt F) Λ₀ .tc) PUnit :=
  cc0_q4_embed (grid0.coords t) tblM (Memref.isWhole_whole _) (ms0_0 m t) (hs0_0 m t) srcC (Memref.isWhole_whole _) srcS (Memref.isWhole_whole _)
    (ms0_1 m t) (hs0_1 m t) bufC (Memref.isWhole_whole _) bufS (Memref.isWhole_whole _) cc0_scratch2 cc0_scratch3

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

/-- On a grid of one axis a point's coordinate is its number. -/
theorem coords_val : ∀ t : Fin grid0.N, (grid0.coords t 0).val = t.val := by
  intro t
  obtain h | h | h | h | h | h | h | h | h | h | h | h | h | h | h | h := fin_N0 t <;> (subst h; decide)

theorem sound_body (hid : ∀ c n, (idw (V m c main_v0) n).toNat < 64000) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  rw [Phi_eq, Phi_eq, after0_0, after0_1]
  unfold held Dat.owesAt Pipeline.owesWithin
  rw [show (dats m 0 c).owed t.castSucc = 0 from rfl, show (dats m 0 c).owed t.succ = 0 from rfl,
    show t.castSucc.val = (grid0.coords t 0).val from (coords_val t).symm, show t.succ.val = (grid0.coords t 0).val + 1 from congrArg (· + 1) (coords_val t).symm]
  simp only [before0_0]
  iintro ⟨⟨Hs, Ht, Hr, HC, HS⟩, ⟨%W, -, HW⟩, ⟨%d0, H0⟩, ⟨%d1, H1⟩⟩
  iapply (body (V m c main_v0) (V m c main_v3) (V m c main_v6) (hid c) c fullShare.right (grid0.coords t) (ms0_0 m t) (hs0_0 m t) (ms0_1 m t) (hs0_1 m t) (iblk m c 0 t) _)
  isplitl [Hs]; · iexact Hs
  isplitl [Ht]; · iexact Ht
  isplitl [HW]; · iexists W; iexact HW
  isplitl [H0]; · iexact H0
  isplitl [H1]; · iexists _; iexact H1
  iintro ⟨Hs, Ht, ⟨%W', HW'⟩, H0, H1⟩
  isplitl [Hs Ht Hr HC HS]
  · isplitl [Hs]; · iexact Hs
    isplitl [Ht]; · iexact Ht
    isplitl [Hr]; · iexact Hr
    isplitl [HC]; · iexact HC
    iexact HS
  isplitl [HW']
  · iexists W'; isplitr; · ipureintro; exact fun _ _ => Or.inl trivial
    iexact HW'
  isplitl [H0]; · iexact H0
  iexact H1

theorem defs₀_row (t : Fin (cfgM m).N) :
    defs₀ (F := F) .tc (cfgM m).body ((cfgM m).bodyArgs t ((cfgM m).slots t)) = bodyAt0 m t := by
  unfold defs₀; rw [Defs.onTc_tc]

theorem body_obligation (hid : ∀ c n, (idw (V m c main_v0) n).toNat < 64000) (c : Dev nD) :
    BodyObligation (dats (F := F) m 0 c) (defs₀ (F := F)) Variants.none () Set.univ := fun t => by
  rw [bigSep_W0, bigSep_W0, defs₀_row]
  exact triple_restated (sound_body m hid c t) rfl .rfl fun _ => .rfl

/-- The region's entry and exit. -/
theorem hin (c : Dev nD) : iprop(Pipeline.ΦD osem0 spec0 H0 (V m) c ∗ Pipeline.ΦT pre0 (tbl m) c) ⊢ ((dats m 0 c).Φ 0 : sProp 𝕄) := by
  rw [Phi_eq, PhiT0_eq, show (0 : Fin ((cfgM m).N + 1)).val = 0 from rfl]
  unfold held
  rw [state_ends m c (.inl rfl)]
  iintro ⟨H, Ht⟩
  icases (rest_iff m c).1 $$ H with ⟨Hs, Hr, HC, HS⟩
  isplitl [Hs]; · iexact Hs
  isplitl [Ht]; · iexact Ht
  isplitl [Hr]; · iexact Hr
  isplitl [HC]; · iexact HC
  iexact HS
theorem hout (c : Dev nD) : ((dats m 0 c).Φ (Fin.last _) : sProp 𝕄) ⊢ Pipeline.ΦD osem0 spec0 H0 (V m) c := by
  rw [Phi_eq, show (Fin.last (cfgM m).N).val = 16 from N_0]
  unfold held
  rw [state_ends m c (.inr rfl)]
  iintro ⟨Hs, Ht, Hr, HC, HS⟩
  iapply (rest_iff m c).2
  isplitl [Hs]; · iexact Hs
  isplitl [Hr]; · iexact Hr
  isplitl [HC]; · iexact HC
  iexact HS

/-! ## The run and the frame -/

set_option backward.isDefEq.respectTransparency.types false in
set_option maxHeartbeats 1600000 in
/-- THE LAUNCH: every weakly fair execution terminates; every array of the pipeline ends at what the proof data says, every
    other unscoped buffer at what the region found in it, and every semaphore counter at zero. -/
theorem run_main_quiescent (hid : ∀ c n, (idw (V m c main_v0) n).toNat < 64000) :
    θ_run defs (onTc (τ := τ) (main (F := F))) (s₀ m ρ)
      (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hid c).loose) (hshare := fun c => (dats m 0 c).share_full fun _ => rfl)
    (howed := fun _ _ => rfl) (V := V m) (hmain := hmain m Variants.none) (hA := A_eq m) (hpf := V_pre m) (hin := hin m) (hout := hout m)

/-- THE FRAME: every weakly fair execution terminates with the arguments unchanged and every semaphore counter at zero. -/
theorem frame (hid : ∀ c n, (idw (V m c main_v0) n).toNat < 64000) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of (win := spec0) main_arg0 (by decide) (by decide))).trans (V_main_arg0 m c),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c)⟩, h.2⟩) (run_main_quiescent m ρ hid)

end

end Cert.Kernel.Proof

end
-- ==== Proof.InTable.lean ====
/-
  The precondition, read: every id names a row of the tables.
-/
module

public import proofs.«01_k».proof.Pre_ids_in_table
public import proofs.«01_k».proof.Proof.Gen.Pre_ids_in_table
public import Idealize.ShloMosaic.Lib.ReduceAll
public import Idealize.ShloMosaic.Lib.StableHlo.Predicate

@[expose] public section

namespace Cert.Pre_ids_in_table

open Idealize.ShloMosaic

/-- A word that is at least 0 and below 64000, both signed, is below 64000 unsigned. -/
theorem toNat_lt {a : BitVec 32} (h : IntOp.andi (IntOp.cmpi .sge a 0#32) (IntOp.cmpi .slt a 64000#32) = 1#1) : a.toNat < 64000 := by
  have h1 : (0#32).sle a = true ∧ a.slt 64000#32 = true := by
    have h' : IntOp.andi (BitVec.ofBool ((0#32).sle a)) (BitVec.ofBool (a.slt 64000#32)) = 1#1 := h
    revert h'
    cases (0#32).sle a <;> cases a.slt 64000#32 <;> decide
  obtain ⟨h0, h2⟩ := h1
  rw [BitVec.sle_iff_toInt_le] at h0
  rw [BitVec.slt_iff_toInt_lt] at h2
  rw [show (0#32).toInt = 0 by decide, BitVec.toInt_eq_toNat_cond] at h0
  rw [show (64000#32).toInt = 64000 by decide, BitVec.toInt_eq_toNat_cond] at h2
  have := a.isLt
  split at h0 <;> omega

/-- Under the precondition every id is below the number of rows. -/
theorem id_lt {F : FTy → Type} [FloatOps F] {x : IVec S2x1024 32} {y : IVec S64000x2048 8} {z : IVec S64000x128 16}
    (h : fn (F := F) x y z = fun _ => 1#1) (i : S2x1024.Idx) : (x i).toNat < 64000 := by
  haveI : Subsingleton S_.Idx := ⟨fun a b => funext fun k => k.elim0⟩
  exact toNat_lt (Host.reduce_andi_all _ _ _ _ _ (congrFun h fun k => k.elim0) i)

end Cert.Pre_ids_in_table
-- ==== Proof.KernelTable.lean ====
/-
  The frame of the kernel under the precondition: the table that the region prefetches is the ids argument.
-/
module

public import proofs.«01_k».proof.Proof.KernelFrame
public import proofs.«01_k».proof.Proof.InTable
public import Idealize.ShloMosaic.Lib.Claim

@[expose] public section

noncomputable section

namespace Cert.Kernel.Proof

open Idealize.ShloMosaic Idealize.ShloMosaic.TcCoe Idealize.ShloMosaic.Tactic
open Idealize.SL.Sem
open Cert.Kernel Cert.Kernel.Gen

variable {F : FTy → Type} [FloatOps F] (m : (ℓ : Loc nD τ sig) → Buf (Elt F) ℓ) (ρ : Dev nD → PrngReg)

/-- The prefetched table is the ids in row-major order. -/
theorem V_main_v0 (c : Dev nD) : V m c main_v0 = shapeCast S2048 (m ((c : Thread nD τ).loc main_arg0)) shapeCasts_S2x1024_S2048 := by
  show StableHlo.after hostOps0 _ (Proc.devRef .tc main_v0) = _
  after_results
  rfl

/-- Under the precondition every id of the table is below the number of rows. -/
theorem table_lt (h : ∀ c : Dev nD, Cert.Pre_ids_in_table.fn (F := F) (m ((c : Thread nD τ).loc main_arg0)) (m ((c : Thread nD τ).loc main_arg1)) (m ((c : Thread nD τ).loc main_arg2)) = fun _ => 1#1)
    (c : Dev nD) (n : ℕ) : (idw (V m c main_v0) n).toNat < 64000 := by
  rw [V_main_v0]; exact Cert.Pre_ids_in_table.id_lt (h c) _

/-- THE FRAME under the precondition. -/
theorem frame_pre (h : ∀ c : Dev nD, Cert.Pre_ids_in_table.fn (F := F) (m ((c : Thread nD τ).loc main_arg0)) (m ((c : Thread nD τ).loc main_arg1)) (m ((c : Thread nD τ).loc main_arg2)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame m ρ (table_lt m h)

end Cert.Kernel.Proof

end
-- ==== Proof.KernelIdealRows.lean ====
/-
  The kernel's two gathers, of code rows and of scale rows, as batches of 128 row transfers each: the rows of the two
  buffer slots, the source rows, what each slot holds once filled, and the rules for issuing and awaiting one row.
-/
module

public import proofs.«01_k».proof.Proof.RowBatch
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.ValueKit.Geometry

@[expose] public section

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.RowBatch (deliv todo running issuing rest)

variable {F : FTy → Type} [FloatOps F]

local notation "𝕄" => MT nD τ sig Unit (Elt F) ℕ (Pipeline.UD sig nD τ) ℕ

/-! ## The buffers and their rows -/

/-- The ids table, the code words and the scale words the kernel reads; the two double-buffered scratches it fills. -/
abbrev tblM : Memref sig .tc .smem S2048 .i32 := Memref.whole main_v0
abbrev srcC : Memref sig .tc .hbm S16000x2048 .i32 := Memref.whole main_v3
abbrev srcS : Memref sig .tc .hbm S32000x128 .i32 := Memref.whole main_v6
abbrev bufC : Memref sig .tc .vmem S2x128x2048 .i32 := Memref.whole cc0_scratch0
abbrev bufS : Memref sig .tc .vmem S2x128x128 .i32 := Memref.whole cc0_scratch1

/-- Slot `s` of each scratch, and its row `t`. -/
def slotC (s : ℕ) : Finset S2x128x2048.Idx := Finset.univ.filter fun y => (y 0).val = s
def slotS (s : ℕ) : Finset S2x128x128.Idx := Finset.univ.filter fun y => (y 0).val = s
def rowC (s : ℕ) (t : Fin 128) : Finset S2x128x2048.Idx := Finset.univ.filter fun y => (y 0).val = s ∧ (y 1).val = t.val
def rowS (s : ℕ) (t : Fin 128) : Finset S2x128x128.Idx := Finset.univ.filter fun y => (y 0).val = s ∧ (y 1).val = t.val

/-- Row `r` of the code words and of the scale words. -/
def fromC (r : ℕ) : Finset S16000x2048.Idx := Finset.univ.filter fun y => (y 0).val = r
def fromS (r : ℕ) : Finset S32000x128.Idx := Finset.univ.filter fun y => (y 0).val = r

theorem rowC_disjoint (s : ℕ) : ∀ b b' : Fin 128, b ≠ b' → Disjoint (rowC s b) (rowC s b') := fun b b' hne => by
  rw [Finset.disjoint_left]; intro y hy hy'
  simp only [rowC, Finset.mem_filter] at hy hy'
  exact hne (Fin.ext (by omega))
theorem rowS_disjoint (s : ℕ) : ∀ b b' : Fin 128, b ≠ b' → Disjoint (rowS s b) (rowS s b') := fun b b' hne => by
  rw [Finset.disjoint_left]; intro y hy hy'
  simp only [rowS, Finset.mem_filter] at hy hy'
  exact hne (Fin.ext (by omega))
theorem rowC_cover (s : ℕ) : Finset.univ.biUnion (rowC s) = slotC s := by
  ext y
  simp only [rowC, slotC, Finset.mem_biUnion, Finset.mem_univ, Finset.mem_filter, true_and]
  exact ⟨fun ⟨_, h, _⟩ => h, fun h => ⟨⟨(y 1).val, (y 1).isLt⟩, h, rfl⟩⟩
theorem rowS_cover (s : ℕ) : Finset.univ.biUnion (rowS s) = slotS s := by
  ext y
  simp only [rowS, slotS, Finset.mem_biUnion, Finset.mem_univ, Finset.mem_filter, true_and]
  exact ⟨fun ⟨_, h, _⟩ => h, fun h => ⟨⟨(y 1).val, (y 1).isLt⟩, h, rfl⟩⟩

/-- A row of a slot, as the kernel spells a transfer's destination. -/
abbrev dstC (off : Fin S2x128x2048.rank → ℕ) (h : ∀ a, off a + S1x1x2048.size a ≤ S2x128x2048.size a) : Memref sig .tc .vmem S1x2048 .i32 :=
  (bufC.slice (Rect.unit (s := S2x128x2048) off S1x1x2048.size h) (fun _ => rfl)).squeeze S1x2048 squeezes_S1x1x2048_S1x2048
abbrev dstS (off : Fin S2x128x128.rank → ℕ) (h : ∀ a, off a + S1x1x128.size a ≤ S2x128x128.size a) : Memref sig .tc .vmem S1x128 .i32 :=
  (bufS.slice (Rect.unit (s := S2x128x128) off S1x1x128.size h) (fun _ => rfl)).squeeze S1x128 squeezes_S1x1x128_S1x128

theorem dstC_emb {off} (h) (x : S1x2048.Idx) (a : Fin 3) :
    ((dstC off h).view.emb x a : ℕ) = off a + ((Fin.cons ⟨0, Nat.one_pos⟩ x : S1x1x2048.Idx) a : ℕ) := by
  show ((Rect.unit (s := S2x128x2048) off S1x1x2048.size h).emb (Shape.reshapeEquiv _ x) a : ℕ) = _
  rw [ValueKit.rect_emb_unit_val]
  exact congrArg (fun z : S1x1x2048.Idx => off a + (z a : ℕ)) (Shape.reshapeEquiv_cons_one (d := S1x2048.size) _ x)
theorem dstS_emb {off} (h) (x : S1x128.Idx) (a : Fin 3) :
    ((dstS off h).view.emb x a : ℕ) = off a + ((Fin.cons ⟨0, Nat.one_pos⟩ x : S1x1x128.Idx) a : ℕ) := by
  show ((Rect.unit (s := S2x128x128) off S1x1x128.size h).emb (Shape.reshapeEquiv _ x) a : ℕ) = _
  rw [ValueKit.rect_emb_unit_val]
  exact congrArg (fun z : S1x1x128.Idx => off a + (z a : ℕ)) (Shape.reshapeEquiv_cons_one (d := S1x128.size) _ x)

/-- The index of a one-row vector at column `k`. -/
def colC (k : Fin 2048) : S1x2048.Idx := fun a => match a with | 0 => ⟨0, Nat.one_pos⟩ | 1 => k
def colS (k : Fin 128) : S1x128.Idx := fun a => match a with | 0 => ⟨0, Nat.one_pos⟩ | 1 => k

theorem dstC_at {off} (h) {s : ℕ} {t : Fin 128} (e : off = ![s, t.val, 0]) {y : S2x128x2048.Idx} (hy : y ∈ rowC s t) :
    (dstC off h).view.emb (colC (y 2)) = y := by
  subst e
  simp only [rowC, Finset.mem_filter] at hy
  refine funext fun (a : Fin 3) => Fin.ext ?_
  rw [dstC_emb]
  fin_cases a
  · show s + 0 = (y 0).val; omega
  · show t.val + 0 = (y 1).val; omega
  · show 0 + (y 2).val = (y 2).val; omega
theorem dstS_at {off} (h) {s : ℕ} {t : Fin 128} (e : off = ![s, t.val, 0]) {y : S2x128x128.Idx} (hy : y ∈ rowS s t) :
    (dstS off h).view.emb (colS (y 2)) = y := by
  subst e
  simp only [rowS, Finset.mem_filter] at hy
  refine funext fun (a : Fin 3) => Fin.ext ?_
  rw [dstS_emb]
  fin_cases a
  · show s + 0 = (y 0).val; omega
  · show t.val + 0 = (y 1).val; omega
  · show 0 + (y 2).val = (y 2).val; omega

theorem dstC_sub {off} (h) {s : ℕ} {t : Fin 128} (e : off = ![s, t.val, 0]) : (dstC off h).view.set ⊆ rowC s t := by
  subst e
  intro y hy
  obtain ⟨x, -, rfl⟩ := Finset.mem_map.mp hy
  have h0 : (x 0).val < 1 := (x 0).isLt
  refine Finset.mem_filter.mpr ⟨Finset.mem_univ _, ?_, ?_⟩
  · exact (dstC_emb h x 0).trans (by show s + 0 = s; omega)
  · exact (dstC_emb h x 1).trans (by show t.val + (x 0).val = t.val; omega)
theorem dstS_sub {off} (h) {s : ℕ} {t : Fin 128} (e : off = ![s, t.val, 0]) : (dstS off h).view.set ⊆ rowS s t := by
  subst e
  intro y hy
  obtain ⟨x, -, rfl⟩ := Finset.mem_map.mp hy
  have h0 : (x 0).val < 1 := (x 0).isLt
  refine Finset.mem_filter.mpr ⟨Finset.mem_univ _, ?_, ?_⟩
  · exact (dstS_emb h x 0).trans (by show s + 0 = s; omega)
  · exact (dstS_emb h x 1).trans (by show t.val + (x 0).val = t.val; omega)

/-- A source row, as the kernel spells a transfer's source. -/
abbrev inC (off : Fin S16000x2048.rank → ℕ) (h : ∀ a, off a + S1x2048.size a ≤ S16000x2048.size a) : Memref sig .tc .hbm S1x2048 .i32 :=
  srcC.slice (Rect.unit (s := S16000x2048) off S1x2048.size h) (fun _ => rfl)
abbrev inS (off : Fin S32000x128.rank → ℕ) (h : ∀ a, off a + S1x128.size a ≤ S32000x128.size a) : Memref sig .tc .hbm S1x128 .i32 :=
  srcS.slice (Rect.unit (s := S32000x128) off S1x128.size h) (fun _ => rfl)

theorem inC_set {off} (h) {r : ℕ} (e : off = ![r, 0]) : (inC off h).view.set = fromC r := by
  subst e
  show ((View.whole main_v3).slice _).set = _
  rw [View.set_slice_whole]
  ext y
  rw [Rect.mem_set_unit]
  simp only [fromC, Finset.mem_filter, Finset.mem_univ, true_and]
  have h1 : (y 1).val < 2048 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 2048; omega
theorem inS_set {off} (h) {r : ℕ} (e : off = ![r, 0]) : (inS off h).view.set = fromS r := by
  subst e
  show ((View.whole main_v6).slice _).set = _
  rw [View.set_slice_whole]
  ext y
  rw [Rect.mem_set_unit]
  simp only [fromS, Finset.mem_filter, Finset.mem_univ, true_and]
  have h1 : (y 1).val < 128 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 128; omega

/-! ## The values -/

/-- An element of a matrix named by its coordinates (taken modulo the extents, so that the name is total). -/
def cC (r k : ℕ) : S16000x2048.Idx := fun a => match a with
  | 0 => ⟨r % 16000, Nat.mod_lt _ (by decide)⟩ | 1 => ⟨k % 2048, Nat.mod_lt _ (by decide)⟩
def cS (r k : ℕ) : S32000x128.Idx := fun a => match a with
  | 0 => ⟨r % 32000, Nat.mod_lt _ (by decide)⟩ | 1 => ⟨k % 128, Nat.mod_lt _ (by decide)⟩
/-- An entry of the ids table. -/
def cT (n : ℕ) : S2048.Idx := fun a => match a with | 0 => ⟨n % 2048, Nat.mod_lt _ (by decide)⟩

variable (tb : S2048.Idx → Elt F .i32) (cd : S16000x2048.Idx → Elt F .i32) (sc : S32000x128.Idx → Elt F .i32)

/-- The id of token `n`. -/
def idw (n : ℕ) : BitVec 32 := tb (cT n)
/-- The code-word row and the scale-word row the id names. -/
def rwC (n : ℕ) : ℕ := (idw tb n >>> 2).toNat
def rwS (n : ℕ) : ℕ := (idw tb n >>> 1).toNat

/-- A slot of code words filled for grid point `p`: row `t` is the words of token `128 p + t`. -/
def valC (p : ℕ) : S2x128x2048.Idx → Elt F .i32 := fun y => cd (cC (rwC tb (128 * p + (y 1).val)) (y 2).val)
/-- A slot of scale words filled for grid point `p`: row `t` is the words of token `128 p + t`. -/
def valS (p : ℕ) : S2x128x128.Idx → Elt F .i32 := fun y => sc (cS (rwS tb (128 * p + (y 1).val)) (y 2).val)

theorem inC_read {off} (h) {n : ℕ} (e : off = ![rwC tb n, 0]) (k : Fin 2048) :
    (inC off h).view.read (Elt F) cd (colC k) = cd (cC (rwC tb n) k.val) := by
  subst e
  have hb : rwC tb n + 1 ≤ 16000 := h 0
  show cd ((inC _ h).view.emb (colC k)) = _
  refine congrArg cd (funext fun (a : Fin 2) => Fin.ext ?_)
  refine (ValueKit.rect_emb_unit_val (s := S16000x2048) _ _ h (colC k) a).trans ?_
  fin_cases a
  · show rwC tb n + 0 = rwC tb n % 16000; rw [Nat.mod_eq_of_lt (by omega)]; rfl
  · show 0 + k.val = k.val % 2048; rw [Nat.mod_eq_of_lt k.isLt, Nat.zero_add]
theorem inS_read {off} (h) {n : ℕ} (e : off = ![rwS tb n, 0]) (k : Fin 128) :
    (inS off h).view.read (Elt F) sc (colS k) = sc (cS (rwS tb n) k.val) := by
  subst e
  have hb : rwS tb n + 1 ≤ 32000 := h 0
  show sc ((inS _ h).view.emb (colS k)) = _
  refine congrArg sc (funext fun (a : Fin 2) => Fin.ext ?_)
  refine (ValueKit.rect_emb_unit_val (s := S32000x128) _ _ h (colS k) a).trans ?_
  fin_cases a
  · show rwS tb n + 0 = rwS tb n % 32000; rw [Nat.mod_eq_of_lt (by omega)]; rfl
  · show 0 + k.val = k.val % 128; rw [Nat.mod_eq_of_lt k.isLt, Nat.zero_add]

/-! ## The batches -/

/-- What one row transfer adds to its semaphore. -/
def unitC : ℕ := (dstC ![0, 0, 0] (by decide)).view.dmaCredit
def unitS : ℕ := (dstS ![0, 0, 0] (by decide)).view.dmaCredit
theorem unitC_pos : 0 < unitC := View.dmaCredit_pos _ (by decide)
theorem unitS_pos : 0 < unitS := View.dmaCredit_pos _ (by decide)

/-- The semaphores of slot `s`. -/
def semC (s : ℕ) : DmaSem sig := if s = 0 then 4 else 5
def semS (s : ℕ) : DmaSem sig := if s = 0 then 6 else 7

variable (c : Dev nD) (s p : ℕ)

/-- The share of the source arrays the transfers of slot `s` read under. -/
def shareAt : PosShare TreeShare := Transfers.shareTokN fullShare s

/-- The code gather of grid point `p` into slot `s`: `j` rows issued, the rest in hand; -/
def issC (j : ℕ) : sProp 𝕄 :=
  issuing (Val := Elt F) (c : Thread nD τ) (.dma (semC s)) unitC (ℓd := bufC.view.loc (c : Thread nD τ)) (ℓs := srcC.view.loc (c : Thread nD τ))
    (rowC s) (fun t => fromC (rwC tb (128 * p + t.val))) (shareAt s) (valC tb cd p) cd j
/-- `j` rows issued, `u` units awaited; -/
def runC (j u : ℕ) : sProp 𝕄 :=
  running (Val := Elt F) (c : Thread nD τ) (.dma (semC s)) unitC (ℓd := bufC.view.loc (c : Thread nD τ)) (ℓs := srcC.view.loc (c : Thread nD τ))
    (rowC s) (fun t => fromC (rwC tb (128 * p + t.val))) (shareAt s) (valC tb cd p) cd j u
/-- and what the transfers leave unread. -/
def restC : sProp 𝕄 :=
  rest (Val := Elt F) (ℓs := srcC.view.loc (c : Thread nD τ)) (fun t => fromC (rwC tb (128 * p + t.val))) (shareAt s) cd

/-- The scale gather of grid point `p` into slot `s`, likewise. -/
def issS (j : ℕ) : sProp 𝕄 :=
  issuing (Val := Elt F) (c : Thread nD τ) (.dma (semS s)) unitS (ℓd := bufS.view.loc (c : Thread nD τ)) (ℓs := srcS.view.loc (c : Thread nD τ))
    (rowS s) (fun t => fromS (rwS tb (128 * p + t.val))) (shareAt s) (valS tb sc p) sc j
def runS (j u : ℕ) : sProp 𝕄 :=
  running (Val := Elt F) (c : Thread nD τ) (.dma (semS s)) unitS (ℓd := bufS.view.loc (c : Thread nD τ)) (ℓs := srcS.view.loc (c : Thread nD τ))
    (rowS s) (fun t => fromS (rwS tb (128 * p + t.val))) (shareAt s) (valS tb sc p) sc j u
def restS : sProp 𝕄 :=
  rest (Val := Elt F) (ℓs := srcS.view.loc (c : Thread nD τ)) (fun t => fromS (rwS tb (128 * p + t.val))) (shareAt s) sc

/-- What a delivered row reads as, given what a transfer of the source row writes into the slot. -/
theorem landC {off6 : Fin 3 → ℕ} (h6) {off3 : Fin 2 → ℕ} (h3) {s n p : ℕ} {t : Fin 128} (e6 : off6 = ![s, t.val, 0])
    (e3 : off3 = ![rwC tb (128 * p + t.val), 0]) (f : S2x128x2048.Idx → Elt F .i32) :
    ∀ y ∈ rowC s t, (dstC off6 h6).view.write (Elt F) f ((inC off3 h3).view.read (Elt F) cd) Finset.univ y = valC tb cd p y := by
  intro y hy
  have ey := dstC_at h6 e6 hy
  have hw : (dstC off6 h6).view.write (Elt F) f ((inC off3 h3).view.read (Elt F) cd) Finset.univ ((dstC off6 h6).view.emb (colC (y 2)))
      = (inC off3 h3).view.read (Elt F) cd (colC (y 2)) := View.write_emb_of_mem _ _ (Finset.mem_univ _)
  rw [ey] at hw
  refine hw.trans ((inC_read tb cd h3 e3 (y 2)).trans ?_)
  have ht : (y 1).val = t.val := (Finset.mem_filter.mp hy).2.2
  show cd (cC (rwC tb (128 * p + t.val)) (y 2).val) = _
  rw [← ht]; rfl
theorem landS {off6 : Fin 3 → ℕ} (h6) {off3 : Fin 2 → ℕ} (h3) {s n p : ℕ} {t : Fin 128} (e6 : off6 = ![s, t.val, 0])
    (e3 : off3 = ![rwS tb (128 * p + t.val), 0]) (f : S2x128x128.Idx → Elt F .i32) :
    ∀ y ∈ rowS s t, (dstS off6 h6).view.write (Elt F) f ((inS off3 h3).view.read (Elt F) sc) Finset.univ y = valS tb sc p y := by
  intro y hy
  have ey := dstS_at h6 e6 hy
  have hw : (dstS off6 h6).view.write (Elt F) f ((inS off3 h3).view.read (Elt F) sc) Finset.univ ((dstS off6 h6).view.emb (colS (y 2)))
      = (inS off3 h3).view.read (Elt F) sc (colS (y 2)) := View.write_emb_of_mem _ _ (Finset.mem_univ _)
  rw [ey] at hw
  refine hw.trans ((inS_read tb sc h3 e3 (y 2)).trans ?_)
  have ht : (y 1).val = t.val := (Finset.mem_filter.mp hy).2.2
  show sc (cS (rwS tb (128 * p + t.val)) (y 2).val) = _
  rw [← ht]; rfl

section Rules

variable {Λ : Labels} {defs : Defs nD τ sig (Elt F) Λ} (𝒱 : Variants) (bd : Option 𝒱.V) {α : Type} {Q : α → sProp (MT nD τ sig Unit (Elt F) ℕ (Pipeline.UD sig nD τ) ℕ)}

/-- Issue row `t` of the code gather. -/
theorem wp_issC {off6 : Fin 3 → ℕ} {h6 : ∀ a, off6 a + S1x1x2048.size a ≤ S2x128x2048.size a} {off3 : Fin 2 → ℕ}
    {h3 : ∀ a, off3 a + S1x2048.size a ≤ S16000x2048.size a} {sem : DmaSem sig} {hsrc : (inC off3 h3).view.WordExact} {hdst : (dstC off6 h6).view.WordExact}
    {hsem : DmaTarget.Typed (nD := nD) (τ := τ) (p := Proc.tc) .hbm (.dma sem) (.here (dstC off6 h6))}
    {k : PUnit → Prog (TpuEff nD τ sig (Elt F) Λ .tc) α} (t : ℕ) (ht : t < 128)
    (e6 : off6 = ![s, t, 0]) (e3 : off3 = ![rwC tb (128 * p + t), 0]) (es : sem = semC s) :
    issC tb cd c s p t ⊢ iprop((issC tb cd c s p (t + 1) -∗ wp frame (wpE defs 𝒱 (c : Thread nD τ) bd) Set.univ (k ⟨⟩) Q)
      -∗ wp frame (wpE defs 𝒱 (c : Thread nD τ) bd) Set.univ
        (.op (.enqueueDmaAs (inC off3 h3) (.here (dstC off6 h6)) .same (.dma sem) hsrc hdst hsem) k) Q) := by
  subst es
  unfold issC
  rw [Cert.RowBatch.issuing_next _ _ _ _ _ _ _ _ ht]
  unfold todo running issuing running
  iintro ⟨HB, ⟨⟨%f, Hd⟩, Hs⟩, Hr⟩ Hk
  iapply (Transfers.wp_dmaBatch (countersEmb (U := Pipeline.UD sig nD τ)) 𝒱 (c : Thread nD τ) bd (src := inC off3 h3) (dst := dstC off6 h6)
    (via := .same) () unitC (Sd := rowC s ⟨t, ht⟩) (fd := f) (fs := cd) (q := Transfers.shareTok (shareAt s) 128 ⟨t, ht⟩)
    (D := deliv (Val := Elt F) (ℓd := bufC.view.loc (c : Thread nD τ)) (ℓs := srcC.view.loc (c : Thread nD τ))
      (rowC s) (fun t => fromC (rwC tb (128 * p + t.val))) (shareAt s) (valC tb cd p) cd) rfl
    (dstC_sub h6 (t := ⟨t, ht⟩) e6) ht (Nat.zero_le _) ?_) $$ [HB Hd Hs]
  · unfold deliv
    rw [inC_set h3 e3]
    exact Entails.of_eq (congrArg₂ BI.sep (pointsTo_congr (landC tb cd h6 h3 (n := 0) (t := ⟨t, ht⟩) e6 e3 f)) rfl)
  · rw [inC_set h3 e3]
    isplitl [Hs]; · iexact Hs
    isplitl [Hd]; · iexact Hd
    iexact HB
  iintro HB
  iapply Hk
  isplitl [HB]; · iexact HB
  iexact Hr

/-- Issue row `t` of the scale gather. -/
theorem wp_issS {off6 : Fin 3 → ℕ} {h6 : ∀ a, off6 a + S1x1x128.size a ≤ S2x128x128.size a} {off3 : Fin 2 → ℕ}
    {h3 : ∀ a, off3 a + S1x128.size a ≤ S32000x128.size a} {sem : DmaSem sig} {hsrc : (inS off3 h3).view.WordExact} {hdst : (dstS off6 h6).view.WordExact}
    {hsem : DmaTarget.Typed (nD := nD) (τ := τ) (p := Proc.tc) .hbm (.dma sem) (.here (dstS off6 h6))}
    {k : PUnit → Prog (TpuEff nD τ sig (Elt F) Λ .tc) α} (t : ℕ) (ht : t < 128)
    (e6 : off6 = ![s, t, 0]) (e3 : off3 = ![rwS tb (128 * p + t), 0]) (es : sem = semS s) :
    issS tb sc c s p t ⊢ iprop((issS tb sc c s p (t + 1) -∗ wp frame (wpE defs 𝒱 (c : Thread nD τ) bd) Set.univ (k ⟨⟩) Q)
      -∗ wp frame (wpE defs 𝒱 (c : Thread nD τ) bd) Set.univ
        (.op (.enqueueDmaAs (inS off3 h3) (.here (dstS off6 h6)) .same (.dma sem) hsrc hdst hsem) k) Q) := by
  subst es
  unfold issS
  rw [Cert.RowBatch.issuing_next _ _ _ _ _ _ _ _ ht]
  unfold todo running issuing running
  iintro ⟨HB, ⟨⟨%f, Hd⟩, Hs⟩, Hr⟩ Hk
  iapply (Transfers.wp_dmaBatch (countersEmb (U := Pipeline.UD sig nD τ)) 𝒱 (c : Thread nD τ) bd (src := inS off3 h3) (dst := dstS off6 h6)
    (via := .same) () unitS (Sd := rowS s ⟨t, ht⟩) (fd := f) (fs := sc) (q := Transfers.shareTok (shareAt s) 128 ⟨t, ht⟩)
    (D := deliv (Val := Elt F) (ℓd := bufS.view.loc (c : Thread nD τ)) (ℓs := srcS.view.loc (c : Thread nD τ))
      (rowS s) (fun t => fromS (rwS tb (128 * p + t.val))) (shareAt s) (valS tb sc p) sc) rfl
    (dstS_sub h6 (t := ⟨t, ht⟩) e6) ht (Nat.zero_le _) ?_) $$ [HB Hd Hs]
  · unfold deliv
    rw [inS_set h3 e3]
    exact Entails.of_eq (congrArg₂ BI.sep (pointsTo_congr (landS tb sc h6 h3 (n := 0) (t := ⟨t, ht⟩) e6 e3 f)) rfl)
  · rw [inS_set h3 e3]
    isplitl [Hs]; · iexact Hs
    isplitl [Hd]; · iexact Hd
    iexact HB
  iintro HB
  iapply Hk
  isplitl [HB]; · iexact HB
  iexact Hr

/-- Await one row of the code gather, all 128 issued and `j` awaited. -/
theorem wp_awaitC {off6 : Fin 3 → ℕ} {h6 : ∀ a, off6 a + S1x1x2048.size a ≤ S2x128x2048.size a} {off3 : Fin 2 → ℕ}
    {h3 : ∀ a, off3 a + S1x2048.size a ≤ S16000x2048.size a} {sem : DmaSem sig} {hsrc : (inC off3 h3).view.WordExact} {hdst : (dstC off6 h6).view.WordExact}
    {k : PUnit → Prog (TpuEff nD τ sig (Elt F) Λ .tc) α} (j : ℕ) (hj : j < 128) (es : sem = semC s) {W : Waits sig Unit} :
    iprop(runC tb cd c s p 128 (j * unitC) ∗ owes (c : Thread nD τ) 0 W)
      ⊢ iprop(((runC tb cd c s p 128 ((j + 1) * unitC) ∗ owes (c : Thread nD τ) 0 (insert (SemLoc.dma sem, ()) W))
          -∗ wp frame (wpE defs 𝒱 (c : Thread nD τ) bd) Set.univ (k ⟨⟩) Q)
        -∗ wp frame (wpE defs 𝒱 (c : Thread nD τ) bd) Set.univ (.op (.waitDma2 sem (inC off3 h3) (dstC off6 h6) hsrc hdst) k) Q) := by
  subst es
  unfold runC running
  rw [show (j + 1) * unitC = j * unitC + 1 * unitC by rw [← Nat.add_mul]]
  exact Transfers.wp_waitBatchMul (countersEmb (U := Pipeline.UD sig nD τ)) 𝒱 (c : Thread nD τ) bd () 1 (by rw [Nat.one_mul]; rfl)
    (by rw [← Nat.add_mul, Nat.mul_comm unitC]; exact Nat.mul_le_mul_right _ hj)

/-- Await one row of the scale gather, likewise. -/
theorem wp_awaitS {off6 : Fin 3 → ℕ} {h6 : ∀ a, off6 a + S1x1x128.size a ≤ S2x128x128.size a} {off3 : Fin 2 → ℕ}
    {h3 : ∀ a, off3 a + S1x128.size a ≤ S32000x128.size a} {sem : DmaSem sig} {hsrc : (inS off3 h3).view.WordExact} {hdst : (dstS off6 h6).view.WordExact}
    {k : PUnit → Prog (TpuEff nD τ sig (Elt F) Λ .tc) α} (j : ℕ) (hj : j < 128) (es : sem = semS s) {W : Waits sig Unit} :
    iprop(runS tb sc c s p 128 (j * unitS) ∗ owes (c : Thread nD τ) 0 W)
      ⊢ iprop(((runS tb sc c s p 128 ((j + 1) * unitS) ∗ owes (c : Thread nD τ) 0 (insert (SemLoc.dma sem, ()) W))
          -∗ wp frame (wpE defs 𝒱 (c : Thread nD τ) bd) Set.univ (k ⟨⟩) Q)
        -∗ wp frame (wpE defs 𝒱 (c : Thread nD τ) bd) Set.univ (.op (.waitDma2 sem (inS off3 h3) (dstS off6 h6) hsrc hdst) k) Q) := by
  subst es
  unfold runS running
  rw [show (j + 1) * unitS = j * unitS + 1 * unitS by rw [← Nat.add_mul]]
  exact Transfers.wp_waitBatchMul (countersEmb (U := Pipeline.UD sig nD τ)) 𝒱 (c : Thread nD τ) bd () 1 (by rw [Nat.one_mul]; rfl)
    (by rw [← Nat.add_mul, Nat.mul_comm unitS]; exact Nat.mul_le_mul_right _ hj)

end Rules

end Cert.KernelIdeal.Proof

end
-- ==== Proof.KernelIdealTrips.lean ====
/-
  One trip of each of the kernel's loops: an issue trip starts eight rows of both gathers; a drain trip awaits one row
  of each.
-/
module

public import proofs.«01_k».proof.Proof.KernelIdealRows

@[expose] public section

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.RowBatch (deliv todo running issuing rest)

variable {F : FTy → Type} [FloatOps F]

local notation "𝕄" => MT nD τ sig Unit (Elt F) ℕ (Pipeline.UD sig nD τ) ℕ

variable (tb : S2048.Idx → Elt F .i32) (cd : S16000x2048.Idx → Elt F .i32) (sc : S32000x128.Idx → Elt F .i32)

theorem vec1 {a b : ℕ} (h : a = b) : (![a] : Fin 1 → ℕ) = ![b] := by rw [h]
theorem vec3 {a b c d : ℕ} (h : a = c) (h' : b = d) : (![a, b, 0] : Fin 3 → ℕ) = ![c, d, 0] := by rw [h, h']

/-- Reading one word of the ids table yields that token's id. -/
theorem readId {off : Fin 1 → ℕ} (h : ∀ a, off a + S1.size a ≤ S2048.size a) {n : ℕ} (e : off = ![n]) (x) :
    tblM.view.readAt (Elt F) (Rect.unit (s := S2048) off S1.size h).toLoadRect tb x = idw tb n := by
  subst e
  have hb : n + 1 ≤ 2048 := h 0
  show tb ((Rect.unit (s := S2048) ![n] S1.size h).emb x) = tb (cT n)
  refine congrArg tb (funext fun (a : Fin 1) => Fin.ext ?_)
  refine (ValueKit.rect_emb_unit_val (s := S2048) _ _ h x a).trans ?_
  fin_cases a
  have hx : (x 0).val < 1 := (x 0).isLt
  show n + (x 0).val = n % 2048
  rw [Nat.mod_eq_of_lt (by omega)]; omega

theorem rowC_of {r : BitVec 32} {n : ℕ} (e : r = idw tb n) : (![(Scalar.shrui r 2#32).toNat, 0] : Fin 2 → ℕ) = ![rwC tb n, 0] := by
  subst e; rfl
theorem rowS_of {r : BitVec 32} {n : ℕ} (e : r = idw tb n) : (![(Scalar.shrui r 1#32).toNat, 0] : Fin 2 → ℕ) = ![rwS tb n, 0] := by
  subst e; rfl

/-- An id below 64000 names a row of the code words and a row of the scale words. -/
theorem inbC {r : BitVec 32} (h : r.toNat < 64000) : ∀ a : Fin 2, (![(Scalar.shrui r 2#32).toNat, 0] : Fin 2 → ℕ) a + S1x2048.size a ≤ S16000x2048.size a := by
  have e : (Scalar.shrui r 2#32).toNat = r.toNat / 4 := by
    show (r >>> 2).toNat = _
    rw [BitVec.toNat_ushiftRight, Nat.shiftRight_eq_div_pow]
  intro a; rw [e]; fin_cases a
  · show r.toNat / 4 + 1 ≤ 16000; omega
  · show 0 + 2048 ≤ 2048; omega
theorem inbS {r : BitVec 32} (h : r.toNat < 64000) : ∀ a : Fin 2, (![(Scalar.shrui r 1#32).toNat, 0] : Fin 2 → ℕ) a + S1x128.size a ≤ S32000x128.size a := by
  have e : (Scalar.shrui r 1#32).toNat = r.toNat / 2 := by
    show (r >>> 1).toNat = _
    rw [BitVec.toNat_ushiftRight, Nat.shiftRight_eq_div_pow]
  intro a; rw [e]; fin_cases a
  · show r.toNat / 2 + 1 ≤ 32000; omega
  · show 0 + 128 ≤ 128; omega

theorem readId_lt (hid : ∀ n, (idw tb n).toNat < 64000) {r : BitVec 32} {n : ℕ} (e : r = idw tb n) : r.toNat < 64000 := e ▸ hid n

/-- The semaphore of a slot, as the kernel names it. -/
theorem sem_C {off : Fin 1 → ℕ} {s : ℕ} {h : ∀ a, off a + S1.size a ≤ S2.size a} (hs : s < 2) (e : off = ![s]) :
    ((cc0_scratch2.slice (Rect.unit (s := S2) off S1.size h)).squeeze S_ squeezes_S1_S_).sem = semC s := by
  subst e
  rcases (show s = 0 ∨ s = 1 by omega) with rfl | rfl <;> (revert h; decide)
theorem sem_S {off : Fin 1 → ℕ} {s : ℕ} {h : ∀ a, off a + S1.size a ≤ S2.size a} (hs : s < 2) (e : off = ![s]) :
    ((cc0_scratch3.slice (Rect.unit (s := S2) off S1.size h)).squeeze S_ squeezes_S1_S_).sem = semS s := by
  subst e
  rcases (show s = 0 ∨ s = 1 by omega) with rfl | rfl <;> (revert h; decide)

theorem ret_bind' {E : Type → Type} {α β : Type} (a : α) (f : α → Prog E β) : (Prog.ret a).bind f = f a := rfl

theorem bind_form {E : Type → Type} {α β : Type} (p : Prog E α) (f : α → Prog E β) : p.bind f = (p >>= f) := rfl

theorem trips1 : k0_t1_loop.trips = 16 := by decide
theorem trips2 : k0_t2_loop.trips = 16 := by decide
theorem trips3 : k0_t3_loop.trips = 128 := by decide

set_option maxHeartbeats 4000000 in
/-- A trip of the loop that starts the next point's gathers: eight more rows of each are issued. -/
theorem step2 (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    (arg0 : BitVec 32) (v0 : BitVec 32) (k0_h2 : k0_cond2 i = 1#1) (v1007 : BitVec 32) (k : Fin k0_t2_loop.trips) (acc : Unit) :
    iprop(issC tb cd c (1 - (i 0).val % 2) ((i 0).val + 1) (8 * k.val) ∗ issS tb sc c (1 - (i 0).val % 2) ((i 0).val + 1) (8 * k.val)
        ∗ (tblM.view.loc (c : Thread nD τ) ↦{q} tb)) ⊢
    wp frame (wpE defs₀ Variants.none (c : Thread nD τ) none) Set.univ
     (k0_t2_body (F := F) i tblM (Memref.isWhole_whole _) arg2 harg2 srcC (Memref.isWhole_whole _) srcS (Memref.isWhole_whole _) arg5 harg5
        bufC (Memref.isWhole_whole _) bufS (Memref.isWhole_whole _) cc0_scratch2 cc0_scratch3 arg0 v0 k0_h2 v1007 k acc)
     (fun _ => iprop(issC tb cd c (1 - (i 0).val % 2) ((i 0).val + 1) (8 * (k.val + 1)) ∗ issS tb sc c (1 - (i 0).val % 2) ((i 0).val + 1) (8 * (k.val + 1))
        ∗ (tblM.view.loc (c : Thread nD τ) ↦{q} tb))) := by
  have hk : k.val < 16 := trips2 ▸ k.isLt
  have hs : 1 - (i 0).val % 2 < 2 := by omega
  iintro ⟨HC, HS, HT⟩
  sl_unfold [k0_t2_body]
  sl_open_parts
  iterate 8
    sl_exec
    iapply (wp_assume Variants.none (c : Thread nD τ) none Set.univ ?_)
    rotate_left
    · sl_unfold_run_names
      exact ⟨fun _ => inbC (readId_lt tb hid (readId tb _ (by exact ClosedOff.eq) _)),
        fun _ => inbS (readId_lt tb hid (readId tb _ (by exact ClosedOff.eq) _))⟩
    try sl_exec
    iapply (wp_issC tb cd c (1 - (i 0).val % 2) ((i 0).val + 1) Variants.none none _ ?_
      (ClosedOff.eq.trans (vec3 rfl rfl)) ?_ (sem_C hs ClosedOff.eq)) $$ HC
    · omega
    · sl_unfold_run_names
      exact rowC_of tb (readId tb _ (by exact ClosedOff.eq.trans (vec1 (by omega))) _)
    iintro HC
    beta_reduce
    sl_rw [ret_bind']
    try sl_rw [bind_form]
    try sl_exec
    iapply (wp_issS tb sc c (1 - (i 0).val % 2) ((i 0).val + 1) Variants.none none _ ?_
      (ClosedOff.eq.trans (vec3 rfl rfl)) ?_ (sem_S hs ClosedOff.eq)) $$ HS
    · omega
    · sl_unfold_run_names
      exact rowS_of tb (readId tb _ (by exact ClosedOff.eq.trans (vec1 (by omega))) _)
    iintro HS
    beta_reduce
    sl_rw [ret_bind']
    try sl_rw [bind_form]
  sl_step
  rw [show 8 * (k.val + 1) = 8 * k.val + 1 + 1 + 1 + 1 + 1 + 1 + 1 + 1 by omega]
  isplitl [HC]; · iexact HC
  isplitl [HS]; · iexact HS
  iexact HT

set_option maxHeartbeats 4000000 in
/-- A trip of the loop that starts the first point's gathers: eight more rows of each are issued. -/
theorem step1 (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    (k0_h1 : k0_cond1 i = 1#1) (k : Fin k0_t1_loop.trips) (acc : Unit) :
    iprop(issC tb cd c 0 0 (8 * k.val) ∗ issS tb sc c 0 0 (8 * k.val)
        ∗ (tblM.view.loc (c : Thread nD τ) ↦{q} tb)) ⊢
    wp frame (wpE defs₀ Variants.none (c : Thread nD τ) none) Set.univ
     (k0_t1_body (F := F) i tblM (Memref.isWhole_whole _) arg2 harg2 srcC (Memref.isWhole_whole _) srcS (Memref.isWhole_whole _) arg5 harg5
        bufC (Memref.isWhole_whole _) bufS (Memref.isWhole_whole _) cc0_scratch2 cc0_scratch3 k0_h1 k acc)
     (fun _ => iprop(issC tb cd c 0 0 (8 * (k.val + 1)) ∗ issS tb sc c 0 0 (8 * (k.val + 1))
        ∗ (tblM.view.loc (c : Thread nD τ) ↦{q} tb))) := by
  have hk : k.val < 16 := trips1 ▸ k.isLt
  have hs : 0 < 2 := by decide
  iintro ⟨HC, HS, HT⟩
  sl_unfold [k0_t1_body]
  sl_open_parts
  iterate 8
    sl_exec
    iapply (wp_assume Variants.none (c : Thread nD τ) none Set.univ ?_)
    rotate_left
    · sl_unfold_run_names
      exact ⟨fun _ => inbC (readId_lt tb hid (readId tb _ (by exact ClosedOff.eq) _)),
        fun _ => inbS (readId_lt tb hid (readId tb _ (by exact ClosedOff.eq) _))⟩
    try sl_exec
    iapply (wp_issC tb cd c 0 0 Variants.none none _ ?_
      (ClosedOff.eq.trans (vec3 rfl rfl)) ?_ (sem_C hs rfl)) $$ HC
    · omega
    · sl_unfold_run_names
      exact rowC_of tb (readId tb _ (by exact ClosedOff.eq.trans (vec1 (by omega))) _)
    iintro HC
    beta_reduce
    sl_rw [ret_bind']
    try sl_rw [bind_form]
    try sl_exec
    iapply (wp_issS tb sc c 0 0 Variants.none none _ ?_
      (ClosedOff.eq.trans (vec3 rfl rfl)) ?_ (sem_S hs rfl)) $$ HS
    · omega
    · sl_unfold_run_names
      exact rowS_of tb (readId tb _ (by exact ClosedOff.eq.trans (vec1 (by omega))) _)
    iintro HS
    beta_reduce
    sl_rw [ret_bind']
    try sl_rw [bind_form]
  sl_step
  rw [show 8 * (k.val + 1) = 8 * k.val + 1 + 1 + 1 + 1 + 1 + 1 + 1 + 1 by omega]
  isplitl [HC]; · iexact HC
  isplitl [HS]; · iexact HS
  iexact HT

set_option maxHeartbeats 4000000 in
/-- A trip of the draining loop: one row of each gather is awaited. -/
theorem step3 (c : Dev nD) (p : ℕ) (i : grid0.Coords)
    (arg2 : Memref sig .tc .vmem S128x1 .i32) (harg2 : arg2.IsWhole) (arg5 : Memref sig .tc .vmem S128x4096 .bf16) (harg5 : arg5.IsWhole)
    (c0 c1 : BitVec 32) (k : Fin k0_t3_loop.trips) (acc : Unit) :
    iprop(runC tb cd c ((i 0).val % 2) p 128 (k.val * unitC) ∗ runS tb sc c ((i 0).val % 2) p 128 (k.val * unitS)
        ∗ ∃ W, owes (c : Thread nD τ) 0 W) ⊢
    wp frame (wpE defs₀ Variants.none (c : Thread nD τ) none) Set.univ
     (k0_t3_body (F := F) i tblM (Memref.isWhole_whole _) arg2 harg2 srcC (Memref.isWhole_whole _) srcS (Memref.isWhole_whole _) arg5 harg5
        bufC (Memref.isWhole_whole _) bufS (Memref.isWhole_whole _) cc0_scratch2 cc0_scratch3 c0 c1 k acc)
     (fun _ => iprop(runC tb cd c ((i 0).val % 2) p 128 ((k.val + 1) * unitC) ∗ runS tb sc c ((i 0).val % 2) p 128 ((k.val + 1) * unitS)
        ∗ ∃ W, owes (c : Thread nD τ) 0 W)) := by
  have hk : k.val < 128 := trips3 ▸ k.isLt
  have hs : (i 0).val % 2 < 2 := by omega
  iintro ⟨HC, HS, %W, HO⟩
  sl_unfold [k0_t3_body]
  iapply (wp_awaitC tb cd c ((i 0).val % 2) p Variants.none none k.val hk (sem_C hs ClosedOff.eq)) $$ [HC HO]
  · isplitl [HC]; · iexact HC
    iexact HO
  iintro ⟨HC, HO⟩
  beta_reduce
  iapply (wp_awaitS tb sc c ((i 0).val % 2) p Variants.none none k.val hk (sem_S hs ClosedOff.eq)) $$ [HS HO]
  · isplitl [HS]; · iexact HS
    iexact HO
  iintro ⟨HS, HO⟩
  beta_reduce
  sl_rw [ret_bind']
  sl_step
  isplitl [HC]; · iexact HC
  isplitl [HS]; · iexact HS
  iexists _
  iexact HO

end Cert.KernelIdeal.Proof

end
-- ==== Proof.KernelIdealSlots.lean ====
/-
  The slots of the two scratches between grid points, and the branches and the draining loop that move them.
-/
module

public import proofs.«01_k».proof.Proof.KernelIdealTrips

@[expose] public section

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.RowBatch (deliv todo running issuing rest)

variable {F : FTy → Type} [FloatOps F]

local notation "𝕄" => MT nD τ sig Unit (Elt F) ℕ (Pipeline.UD sig nD τ) ℕ

variable (tb : S2048.Idx → Elt F .i32) (cd : S16000x2048.Idx → Elt F .i32) (sc : S32000x128.Idx → Elt F .i32)

/-- The two conditions the kernel branches on, by the grid point. -/
theorem cond1_iff (i : grid0.Coords) : k0_cond1 i = 1#1 ↔ (i 0).val = 0 := by
  have h : ∀ n : ℕ, n < 16 → (Scalar.cmpi .ne (Scalar.extui (Scalar.cmpi .eq (BitVec.ofNat 32 n) 0#32) : BitVec 32) 0#32 = 1#1 ↔ n = 0) := by decide
  exact h _ (i 0).isLt
theorem cond2_iff (i : grid0.Coords) : k0_cond2 i = 1#1 ↔ (i 0).val + 1 < 16 := by
  have h : ∀ n : ℕ, n < 16 → (Scalar.cmpi .ne (Scalar.extui (Scalar.cmpi .slt (Scalar.addi (BitVec.ofNat 32 n) 1#32) 16#32) : BitVec 32) 0#32 = 1#1 ↔ n + 1 < 16) := by decide
  exact h _ (i 0).isLt

section Slots

variable (c : Dev nD) (s p : ℕ)

/-- Slot `s` at rest: its semaphores at zero, its rows at some contents, its share of the sources; -/
def idle : sProp 𝕄 :=
  iprop((semVal ((c : Thread nD τ), .dma (semC s)) 0 ∗ (∃ f, bufC.view.loc (c : Thread nD τ) ↦[slotC s]{fullShare} f)
      ∗ (srcC.view.loc (c : Thread nD τ) ↦{shareAt s} cd))
    ∗ (semVal ((c : Thread nD τ), .dma (semS s)) 0 ∗ (∃ f, bufS.view.loc (c : Thread nD τ) ↦[slotS s]{fullShare} f)
      ∗ (srcS.view.loc (c : Thread nD τ) ↦{shareAt s} sc)))
/-- with the rows of grid point `p` under way; -/
def flight : sProp 𝕄 :=
  iprop((runC tb cd c s p 128 0 ∗ restC tb cd c s p) ∗ (runS tb sc c s p 128 0 ∗ restS tb sc c s p))
/-- and with them arrived. -/
def ready : sProp 𝕄 :=
  iprop((semVal ((c : Thread nD τ), .dma (semC s)) 0 ∗ (bufC.view.loc (c : Thread nD τ) ↦[slotC s]{fullShare} valC tb cd p)
      ∗ (srcC.view.loc (c : Thread nD τ) ↦{shareAt s} cd))
    ∗ (semVal ((c : Thread nD τ), .dma (semS s)) 0 ∗ (bufS.view.loc (c : Thread nD τ) ↦[slotS s]{fullShare} valS tb sc p)
      ∗ (srcS.view.loc (c : Thread nD τ) ↦{shareAt s} sc)))

theorem begin_issue : idle cd sc c s ⊢
    (|={Set.univ}=> iprop((issC tb cd c s p 0 ∗ restC tb cd c s p) ∗ (issS tb sc c s p 0 ∗ restS tb sc c s p)) : sProp 𝕄) := by
  unfold idle
  iintro ⟨HC, HS⟩
  imod (Cert.RowBatch.start (Val := Elt F) (ℓd := bufC.view.loc (c : Thread nD τ)) (ℓs := srcC.view.loc (c : Thread nD τ)) (c : Thread nD τ) (.dma (semC s)) unitC (rowC s) (fun t => fromC (rwC tb (128 * p + t.val))) (shareAt s) (valC tb cd p) cd
    (rowC_disjoint s) (rowC_cover s)) $$ HC with HC
  imod (Cert.RowBatch.start (Val := Elt F) (ℓd := bufS.view.loc (c : Thread nD τ)) (ℓs := srcS.view.loc (c : Thread nD τ)) (c : Thread nD τ) (.dma (semS s)) unitS (rowS s) (fun t => fromS (rwS tb (128 * p + t.val))) (shareAt s) (valS tb sc p) sc
    (rowS_disjoint s) (rowS_cover s)) $$ HS with HS
  imodintro
  isplitl [HC]; · iexact HC
  iexact HS

theorem end_drain : iprop((runC tb cd c s p 128 (128 * unitC) ∗ restC tb cd c s p) ∗ (runS tb sc c s p 128 (128 * unitS) ∗ restS tb sc c s p)) ⊢
    (|={Set.univ}=> ready tb cd sc c s p : sProp 𝕄) := by
  rw [Nat.mul_comm 128, Nat.mul_comm 128]
  unfold runC restC runS restS
  iintro ⟨HC, HS⟩
  imod (Cert.RowBatch.finish (Val := Elt F) (ℓd := bufC.view.loc (c : Thread nD τ)) (ℓs := srcC.view.loc (c : Thread nD τ)) (c : Thread nD τ) (.dma (semC s)) unitC (rowC s) (fun t => fromC (rwC tb (128 * p + t.val))) (shareAt s) (valC tb cd p) cd
    unitC_pos (rowC_disjoint s) (rowC_cover s)) $$ HC with HC
  imod (Cert.RowBatch.finish (Val := Elt F) (ℓd := bufS.view.loc (c : Thread nD τ)) (ℓs := srcS.view.loc (c : Thread nD τ)) (c : Thread nD τ) (.dma (semS s)) unitS (rowS s) (fun t => fromS (rwS tb (128 * p + t.val))) (shareAt s) (valS tb sc p) sc
    unitS_pos (rowS_disjoint s) (rowS_cover s)) $$ HS with HS
  imodintro
  unfold ready
  isplitl [HC]; · iexact HC
  iexact HS

theorem issC_all : issC tb cd c s p 128 ⊢ runC tb cd c s p 128 0 := by
  unfold issC runC; exact Cert.RowBatch.issuing_all _ _ _ _ _ _ _ _
theorem issS_all : issS tb sc c s p 128 ⊢ runS tb sc c s p 128 0 := by
  unfold issS runS; exact Cert.RowBatch.issuing_all _ _ _ _ _ _ _ _

theorem ready_idle : ready tb cd sc c s p ⊢ (idle cd sc c s : sProp 𝕄) := by
  unfold ready idle
  iintro ⟨⟨H1, H2, H3⟩, H4, H5, H6⟩
  isplitl [H1 H2 H3]
  · isplitl [H1]; · iexact H1
    isplitl [H2]; · iexists _; iexact H2
    iexact H3
  · isplitl [H4]; · iexact H4
    isplitl [H5]; · iexists _; iexact H5
    iexact H6

/-- What the two slots hold before grid point `n`: the rows of point `n` under way in slot `n % 2` and the other slot at
    rest; before the first point and after the last, both at rest. -/
def stateAt (n : ℕ) : sProp 𝕄 :=
  if n = 0 ∨ n = 16 then iprop(idle cd sc c 0 ∗ idle cd sc c 1) else iprop(flight tb cd sc c (n % 2) n ∗ idle cd sc c (1 - n % 2))

/-- The slot grid point `n` does not read, once point `n + 1`'s gathers are started, if there is such a point. -/
def nextAt (n : ℕ) : sProp 𝕄 :=
  if n + 1 < 16 then flight tb cd sc c (1 - n % 2) (n + 1) else idle cd sc c (1 - n % 2)

theorem state_next (n : ℕ) (hn : n < 16) : iprop(ready tb cd sc c (n % 2) n ∗ nextAt tb cd sc c n) ⊢ (stateAt tb cd sc c (n + 1) : sProp 𝕄) := by
  unfold nextAt stateAt
  by_cases h : n + 1 < 16
  · rw [if_pos h, if_neg (by omega), show (n + 1) % 2 = 1 - n % 2 by omega, show 1 - (1 - n % 2) = n % 2 by omega]
    iintro ⟨H, H'⟩
    isplitl [H']; · iexact H'
    iapply ready_idle tb cd sc c $$ H
  · obtain rfl : n = 15 := by omega
    rw [if_neg h, if_pos (.inr rfl)]
    iintro ⟨H, H'⟩
    isplitl [H']; · iexact H'
    iapply ready_idle tb cd sc c $$ H

end Slots

section Parts

variable (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    {α : Type} {Q : α → sProp (MT nD τ sig Unit (Elt F) ℕ (Pipeline.UD sig nD τ) ℕ)}

include hid in
/-- The first branch starts point 0's gathers before the first point, and does nothing at the others. -/
theorem part10 (f : PUnit → Prog (TpuEff nD τ sig (Elt F) Λ₀ .tc) α) :
    iprop(stateAt tb cd sc c (i 0).val ∗ (tblM.view.loc (c : Thread nD τ) ↦{q} tb)) ⊢
      iprop(((flight tb cd sc c ((i 0).val % 2) (i 0).val ∗ idle cd sc c (1 - (i 0).val % 2) ∗ (tblM.view.loc (c : Thread nD τ) ↦{q} tb))
          -∗ wp frame (wpE defs₀ Variants.none (c : Thread nD τ) none) Set.univ (f ⟨⟩) Q)
        -∗ wp frame (wpE defs₀ Variants.none (c : Thread nD τ) none) Set.univ
          (k0_part10 (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3 >>= f) Q) := by
  have hi : (i 0).val < 16 := (i 0).isLt
  by_cases h0 : (i 0).val = 0
  · have k0_h1 : k0_cond1 i = 1#1 := (cond1_iff i).mpr h0
    unfold stateAt
    rw [if_pos (.inl h0)]
    iintro ⟨⟨HI, HJ⟩, HT⟩ Hk
    imod (begin_issue tb cd sc c 0 0) $$ HI with ⟨⟨HC, HRC⟩, HS, HRS⟩
    sl_open_parts
    sl_exec
    sl_rw [bind_assoc]
    sl_for (fun k _ => iprop(issC tb cd c 0 0 (8 * k) ∗ issS tb sc c 0 0 (8 * k) ∗ (tblM.view.loc (c : Thread nD τ) ↦{q} tb))) $$ [HC HS HT]
    · intro k acc
      exact step1 tb cd sc hid c q i arg2 harg2 arg5 harg5 k0_h1 k acc
    · isplitl [HC]; · iexact HC
      isplitl [HS]; · iexact HS
      iexact HT
    iintro %acc ⟨HC, HS, HT⟩
    iapply Hk
    rw [show 8 * Scf.trips k0_t1_loop.lb k0_t1_loop.ub k0_t1_loop.st = 128 from by decide]
    ihave HC := (issC_all tb cd c 0 0) $$ HC
    ihave HS := (issS_all tb sc c 0 0) $$ HS
    rw [h0]
    isplitl [HC HRC HS HRS]
    · unfold flight
      isplitl [HC HRC]
      · isplitl [HC]; · iexact HC
        iexact HRC
      · isplitl [HS]; · iexact HS
        iexact HRS
    isplitl [HJ]; · iexact HJ
    iexact HT
  · have k0_h1 : ¬ k0_cond1 i = 1#1 := fun h => h0 ((cond1_iff i).mp h)
    unfold stateAt
    rw [if_neg (by omega)]
    iintro ⟨⟨HI, HJ⟩, HT⟩ Hk
    sl_open_parts
    sl_exec
    iapply Hk
    isplitl [HI]; · iexact HI
    isplitl [HJ]; · iexact HJ
    iexact HT

include hid in
/-- The second branch starts the next point's gathers into the other slot, at every point but the last. -/
theorem part12 (arg0 v0 : BitVec 32) (f : PUnit → Prog (TpuEff nD τ sig (Elt F) Λ₀ .tc) α) :
    iprop(idle cd sc c (1 - (i 0).val % 2) ∗ (tblM.view.loc (c : Thread nD τ) ↦{q} tb)) ⊢
      iprop(((nextAt tb cd sc c (i 0).val ∗ (tblM.view.loc (c : Thread nD τ) ↦{q} tb))
          -∗ wp frame (wpE defs₀ Variants.none (c : Thread nD τ) none) Set.univ (f ⟨⟩) Q)
        -∗ wp frame (wpE defs₀ Variants.none (c : Thread nD τ) none) Set.univ
          (k0_part12 (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3 arg0 v0 >>= f) Q) := by
  have hi : (i 0).val < 16 := (i 0).isLt
  by_cases h0 : (i 0).val + 1 < 16
  · have k0_h2 : k0_cond2 i = 1#1 := (cond2_iff i).mpr h0
    unfold nextAt
    rw [if_pos h0]
    iintro ⟨HI, HT⟩ Hk
    imod (begin_issue tb cd sc c (1 - (i 0).val % 2) ((i 0).val + 1)) $$ HI with ⟨⟨HC, HRC⟩, HS, HRS⟩
    sl_open_parts
    sl_exec
    sl_rw [bind_assoc]
    sl_for (fun k _ => iprop(issC tb cd c (1 - (i 0).val % 2) ((i 0).val + 1) (8 * k) ∗ issS tb sc c (1 - (i 0).val % 2) ((i 0).val + 1) (8 * k)
      ∗ (tblM.view.loc (c : Thread nD τ) ↦{q} tb))) $$ [HC HS HT]
    · intro k acc
      exact step2 tb cd sc hid c q i arg2 harg2 arg5 harg5 arg0 v0 k0_h2 _ k acc
    · isplitl [HC]; · iexact HC
      isplitl [HS]; · iexact HS
      iexact HT
    iintro %acc ⟨HC, HS, HT⟩
    iapply Hk
    rw [show 8 * Scf.trips k0_t2_loop.lb k0_t2_loop.ub k0_t2_loop.st = 128 from by decide]
    ihave HC := (issC_all tb cd c _ _) $$ HC
    ihave HS := (issS_all tb sc c _ _) $$ HS
    isplitl [HC HRC HS HRS]
    · unfold flight
      isplitl [HC HRC]
      · isplitl [HC]; · iexact HC
        iexact HRC
      · isplitl [HS]; · iexact HS
        iexact HRS
    iexact HT
  · have k0_h2 : ¬ k0_cond2 i = 1#1 := fun h => h0 ((cond2_iff i).mp h)
    unfold nextAt
    rw [if_neg h0]
    iintro ⟨HI, HT⟩ Hk
    sl_open_parts
    sl_exec
    iapply Hk
    isplitl [HI]; · iexact HI
    iexact HT

/-- The draining loop waits until the point's own rows have arrived. -/
theorem part14 (c0 c1 : BitVec 32) (f : PUnit → Prog (TpuEff nD τ sig (Elt F) Λ₀ .tc) α) :
    iprop(flight tb cd sc c ((i 0).val % 2) (i 0).val ∗ ∃ W, owes (c : Thread nD τ) 0 W) ⊢
      iprop(((ready tb cd sc c ((i 0).val % 2) (i 0).val ∗ ∃ W, owes (c : Thread nD τ) 0 W)
          -∗ wp frame (wpE defs₀ Variants.none (c : Thread nD τ) none) Set.univ (f ⟨⟩) Q)
        -∗ wp frame (wpE defs₀ Variants.none (c : Thread nD τ) none) Set.univ
          (k0_part14 (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3 c0 c1 >>= f) Q) := by
  unfold flight
  iintro ⟨⟨⟨HC, HRC⟩, HS, HRS⟩, HO⟩ Hk
  sl_open_parts
  sl_rw [bind_assoc]
  sl_for (fun k _ => iprop(runC tb cd c ((i 0).val % 2) (i 0).val 128 (k * unitC) ∗ runS tb sc c ((i 0).val % 2) (i 0).val 128 (k * unitS)
      ∗ ∃ W, owes (c : Thread nD τ) 0 W)) $$ [HC HS HO]
  · intro k acc
    exact step3 tb cd sc c (i 0).val i arg2 harg2 arg5 harg5 c0 c1 k acc
  · rw [Nat.zero_mul, Nat.zero_mul]
    isplitl [HC]; · iexact HC
    isplitl [HS]; · iexact HS
    iexact HO
  iintro %acc ⟨HC, HS, HO⟩
  rw [show Scf.trips k0_t3_loop.lb k0_t3_loop.ub k0_t3_loop.st = 128 from by decide]
  imod (end_drain tb cd sc c ((i 0).val % 2) (i 0).val) $$ [HC HRC HS HRS] with HR
  · isplitl [HC HRC]
    · isplitl [HC]; · iexact HC
      iexact HRC
    · isplitl [HS]; · iexact HS
      iexact HRS
  iapply Hk
  isplitl [HR]; · iexact HR
  iexact HO

end Parts
end Cert.KernelIdeal.Proof

end
-- ==== Proof.KernelIdealBody.lean ====
/-
  The kernel's body at one grid point: what it loads, what it stores, and the state it leaves for the next point.
-/
module

public import proofs.«01_k».proof.Proof.KernelIdealSlots
public import Idealize.ShloMosaic.Lib.VecWindow

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.RowBatch (deliv todo running issuing rest)

variable {F : FTy → Type} [FloatOps F]

local notation "𝕄" => MT nD τ sig Unit (Elt F) ℕ (Pipeline.UD sig nD τ) ℕ

variable (tb : S2048.Idx → Elt F .i32) (cd : S16000x2048.Idx → Elt F .i32) (sc : S32000x128.Idx → Elt F .i32)

/-! ## The parts that touch no memory -/

theorem part9 (i : grid0.Coords) (arg2 : Memref sig .tc .vmem S128x1 .i32) (harg2 : arg2.IsWhole) (arg5 : Memref sig .tc .vmem S128x4096 .bf16)
    (harg5 : arg5.IsWhole) {α : Type} (f : (Σ' (arg0 : BitVec 32), BitVec 32) → Prog (TpuEff nD τ sig (Elt F) Λ₀ .tc) α) :
    (k0_part9 (F := F) i tblM (Memref.isWhole_whole _) arg2 harg2 srcC (Memref.isWhole_whole _) srcS (Memref.isWhole_whole _) arg5 harg5 bufC (Memref.isWhole_whole _) bufS (Memref.isWhole_whole _) cc0_scratch2 cc0_scratch3 >>= f)
      = f ⟨BitVec.ofNat 32 (i 0).val, Scalar.remsi (BitVec.ofNat 32 (i 0).val) 2#32⟩ := rfl
theorem part11 (i : grid0.Coords) (arg2 : Memref sig .tc .vmem S128x1 .i32) (harg2 : arg2.IsWhole) (arg5 : Memref sig .tc .vmem S128x4096 .bf16)
    (harg5 : arg5.IsWhole) (arg0 : BitVec 32) {α : Type} (f : PUnit → Prog (TpuEff nD τ sig (Elt F) Λ₀ .tc) α) :
    (k0_part11 (F := F) i tblM (Memref.isWhole_whole _) arg2 harg2 srcC (Memref.isWhole_whole _) srcS (Memref.isWhole_whole _) arg5 harg5 bufC (Memref.isWhole_whole _) bufS (Memref.isWhole_whole _) cc0_scratch2 cc0_scratch3 arg0 >>= f) = f ⟨⟩ := rfl
theorem part13 (i : grid0.Coords) (arg2 : Memref sig .tc .vmem S128x1 .i32) (harg2 : arg2.IsWhole) (arg5 : Memref sig .tc .vmem S128x4096 .bf16)
    (harg5 : arg5.IsWhole) {α : Type} (f : (Σ' (arg0 : BitVec 32), BitVec 32) → Prog (TpuEff nD τ sig (Elt F) Λ₀ .tc) α) :
    (k0_part13 (F := F) i tblM (Memref.isWhole_whole _) arg2 harg2 srcC (Memref.isWhole_whole _) srcS (Memref.isWhole_whole _) arg5 harg5 bufC (Memref.isWhole_whole _) bufS (Memref.isWhole_whole _) cc0_scratch2 cc0_scratch3 >>= f) = f ⟨0#32, 1#32⟩ := rfl

/-! ## What the body loads and stores -/

section Loads

/-- The scale words and the `j`-th column chunk of the code words of grid point `p`, as the kernel loads them. -/
def scalesAt (p : ℕ) : Vec F S1x128x128 .i32 := fun y => sc (cS (rwS tb (128 * p + (y 1).val)) (y 2).val)
def codesAt (p j : ℕ) : Vec F S1x128x128 .i32 := fun y => cd (cC (rwC tb (128 * p + (y 1).val)) (128 * j + (y 2).val))

variable (c : Dev nD) {α : Type} {Q : α → sProp (MT nD τ sig Unit (Elt F) ℕ (Pipeline.UD sig nD τ) ℕ)}

/-- A load of a column chunk of the filled slot of code words reads `codesAt`. -/
theorem loadC {s p : ℕ} (j : ℕ) {off : Fin 3 → ℕ} {h : ∀ a, off a + S1x128x128.size a ≤ S2x128x2048.size a}
    {hl : bufC.view.LoadsAt (Rect.unit (s := S2x128x2048) off S1x128x128.size h).toLoadRect}
    {k : Vec F S1x128x128 .i32 → Prog (TpuEff nD τ sig (Elt F) Λ₀ .tc) α} (e : off = ![s, 0, 128 * j]) :
    (bufC.view.loc (c : Thread nD τ) ↦[slotC s]{fullShare} valC tb cd p)
      ⊢ iprop(((bufC.view.loc (c : Thread nD τ) ↦[slotC s]{fullShare} valC tb cd p)
          -∗ wp frame (wpE defs₀ Variants.none (c : Thread nD τ) none) Set.univ (k (codesAt tb cd p j)) Q)
        -∗ wp frame (wpE defs₀ Variants.none (c : Thread nD τ) none) Set.univ
          (.op (.load bufC (Rect.unit (s := S2x128x2048) off S1x128x128.size h).toLoadRect hl) k) Q) := by
  subst e
  have hv : bufC.view.readAt (Elt F) (Rect.unit (s := S2x128x2048) ![s, 0, 128 * j] S1x128x128.size h).toLoadRect (valC tb cd p) = codesAt tb cd p j := by
    refine funext fun y => ?_
    show cd (cC (rwC tb (128 * p + (0 + 1 * (y 1).val))) (128 * j + 1 * (y 2).val)) = _
    rw [Nat.zero_add, Nat.one_mul, Nat.one_mul]; rfl
  rw [← hv]
  refine Idealize.ShloMosaic.wp_load Variants.none (c : Thread nD τ) none Set.univ fun y hy => ?_
  obtain ⟨x, hx, rfl⟩ := Finset.mem_map.mp hy
  have h0 := (Rect.mem_set_unit (s := S2x128x2048)).mp hx 0
  refine Finset.mem_filter.mpr ⟨Finset.mem_univ _, ?_⟩
  change s ≤ (x 0).val ∧ (x 0).val < s + 1 at h0
  show (x 0).val = s
  omega

/-- The load of the filled slot of scale words reads `scalesAt`. -/
theorem loadS {s p : ℕ} {off : Fin 3 → ℕ} {h : ∀ a, off a + S1x128x128.size a ≤ S2x128x128.size a}
    {hl : bufS.view.LoadsAt (Rect.unit (s := S2x128x128) off S1x128x128.size h).toLoadRect}
    {k : Vec F S1x128x128 .i32 → Prog (TpuEff nD τ sig (Elt F) Λ₀ .tc) α} (e : off = ![s, 0, 0]) :
    (bufS.view.loc (c : Thread nD τ) ↦[slotS s]{fullShare} valS tb sc p)
      ⊢ iprop(((bufS.view.loc (c : Thread nD τ) ↦[slotS s]{fullShare} valS tb sc p)
          -∗ wp frame (wpE defs₀ Variants.none (c : Thread nD τ) none) Set.univ (k (scalesAt tb sc p)) Q)
        -∗ wp frame (wpE defs₀ Variants.none (c : Thread nD τ) none) Set.univ
          (.op (.load bufS (Rect.unit (s := S2x128x128) off S1x128x128.size h).toLoadRect hl) k) Q) := by
  subst e
  have hv : bufS.view.readAt (Elt F) (Rect.unit (s := S2x128x128) ![s, 0, 0] S1x128x128.size h).toLoadRect (valS tb sc p) = scalesAt tb sc p := by
    refine funext fun y => ?_
    show sc (cS (rwS tb (128 * p + (0 + 1 * (y 1).val))) (0 + 1 * (y 2).val)) = _
    rw [Nat.zero_add, Nat.zero_add, Nat.one_mul, Nat.one_mul]; rfl
  rw [← hv]
  refine Idealize.ShloMosaic.wp_load Variants.none (c : Thread nD τ) none Set.univ fun y hy => ?_
  obtain ⟨x, hx, rfl⟩ := Finset.mem_map.mp hy
  have h0 := (Rect.mem_set_unit (s := S2x128x128)).mp hx 0
  refine Finset.mem_filter.mpr ⟨Finset.mem_univ _, ?_⟩
  change s ≤ (x 0).val ∧ (x 0).val < s + 1 at h0
  show (x 0).val = s
  omega

/-- The slot a point reads is its parity. -/
theorem slot_eq (i : grid0.Coords) : (Scalar.indexCast (Scalar.remsi (BitVec.ofNat 32 (i 0).val) 2#32)).toNat = (i 0).val % 2 := by
  have h : ∀ n : ℕ, n < 16 → (Scalar.indexCast (Scalar.remsi (BitVec.ofNat 32 n) 2#32)).toNat = n % 2 := by decide
  exact h _ (i 0).isLt

end Loads

section Chunk

/-- The scales the kernel decodes from the ids' parities and the scale words. -/
def scal (x2 : Vec F S128x1 .i32) (w : Vec F S1x128x128 .i32) : FVec F S128x128 .f32 :=
  k0_pay10 (k0_pay5 x2 w) (k0_pay6 x2 w) (k0_pay7 x2 w) (k0_pay8 x2 w) (k0_pay9 x2 w) 2139095040#32

/-- Lane `l` reads group `l / 16 + o`, as the kernel computes it. -/
def groupIx (o : BitVec 32) : IVec S128x128 32 :=
  let lane : IVec S128x128 32 := iota .tc S128x128 32 [1] iota_S128x128_d1_w32
  let quot : IVec S128x128 32 := divsi lane (broadcast S128x128 16#32)
  let sign : IVec S128x128 32 := subi (extui 32 (cmpi .sgt lane (broadcast S128x128 0#32)) natLt_1_32) (extui 32 (cmpi .slt lane (broadcast S128x128 0#32)) natLt_1_32)
  let differ : IVec S128x128 1 := andi (cmpi .ne sign (broadcast S128x128 (Scalar.subi (Scalar.extui (Scalar.cmpi .sgt 16#32 0#32)) (Scalar.extui (Scalar.cmpi .slt 16#32 0#32)))))
    (cmpi .ne (remsi lane (broadcast S128x128 16#32)) (broadcast S128x128 0#32))
  let floor : IVec S128x128 32 := select differ (subi quot (broadcast S128x128 1#32)) quot
  let g : IVec S128x128 32 := addi floor (broadcast S128x128 o)
  let wrapped : IVec S128x128 32 := select (cmpi .slt g (broadcast S128x128 0#32)) (addi g (broadcast S128x128 128#32)) g
  shapeCast S128x128 (shapeCast S128x128x1 wrapped shapeCasts_S128x128_S128x128x1) shapeCasts_S128x128x1_S128x128

/-- A nibble, less 8, times its scale, rounded to bf16. -/
def nibble (w : IVec S128x128 32) (s : FVec F S128x128 .f32) : FVec F S128x128 .bf16 :=
  truncf .bf16 (mulf (sitofp .f32 (subi (andi w (broadcast S128x128 15#32)) (broadcast S128x128 8#32))) s) bitsLt_bf16_f32

/-- One column chunk of a result block: the 256 columns of 128 code words per token, from the ids, the scale words and the code words. -/
def chunk (x2 : Vec F S128x1 .i32) (sw : Vec F S1x128x128 .i32) (o : BitVec 32) (cw : Vec F S1x128x128 .i32) : FVec F S128x256 .bf16 :=
  let w : IVec S128x128 32 := shrui (shapeCast S128x128 cw shapeCasts_S1x128x128_S128x128) (k0_pay11 (k0_pay3 x2))
  let s : FVec F S128x128 .f32 := dynamicGather 1 (scal x2 sw) (groupIx o)
  truncf .bf16 (matmul dot_S128x256_S256x256_S128x256_1_0_0_1_n_n none
    (concatenate S128x256 1 [⟨S128x128, nibble w s⟩, ⟨S128x128, nibble (shrui w (broadcast S128x128 4#32)) s⟩] concatenates_S128x128_S128x128_S128x256_d1)
    (k0_pay12 (F := F)) (constant S128x256 .f32 0x00000000#32)) bitsLt_bf16_f32

/-- A chunk lies inside the result block. -/
theorem inb_chunk (j : ℕ) (hj : j < 16) : ∀ a, (![0, 256 * j] : Fin 2 → ℕ) a + S128x256.size a ≤ S128x4096.size a := by
  intro a; fin_cases a
  · show 0 + 128 ≤ 128; omega
  · show 256 * j + 256 ≤ 4096; omega

/-- Chunk `j` of the result block of grid point `p`, as a piece of the block. -/
def piece (x2 : Vec F S128x1 .i32) (p : ℕ) (j : ℕ) (hj : j < 16) : View.Piece (Elt F) S128x4096 .bf16 :=
  ⟨Rect.unit (s := S128x4096) ![0, 256 * j] S128x256.size (inb_chunk j hj), chunk x2 (scalesAt tb sc p) (BitVec.ofNat 32 (8 * j)) (codesAt tb cd p j)⟩

/-- The result block of grid point `p`. -/
def outBlk (x2 : Vec F S128x1 .i32) (p : ℕ) : Vec F S128x4096 .bf16 :=
  View.canon (List.ofFn fun j : Fin 16 => piece tb cd sc x2 p (15 - j.val) (by omega))

/-- A block whose last writes were the sixteen chunks reads as the result block. -/
theorem read_pieces {sp : Space} (v : View sig .tc sp S128x4096 .bf16) (f : v.ty.Contents (Elt F)) (x2 : Vec F S128x1 .i32) (p : ℕ)
    (L : List (View.Piece (Elt F) S128x4096 .bf16)) (e : L = List.ofFn fun j : Fin 16 => piece tb cd sc x2 p (15 - j.val) (by omega)) :
    v.read (Elt F) (v.writes (Elt F) f L) = outBlk tb cd sc x2 p := by
  subst e
  refine View.read_writes_eq_canon _ _ _ fun y => ?_
  have h0 : (y 0).val < 128 := (y 0).isLt
  have h1 : (y 1).val < 4096 := (y 1).isLt
  refine ⟨_, (List.mem_ofFn).mpr ⟨⟨15 - (y 1).val / 256, by omega⟩, rfl⟩, ?_⟩
  show y ∈ (Rect.unit (s := S128x4096) ![0, 256 * (15 - (15 - (y 1).val / 256))] S128x256.size (inb_chunk _ (by omega))).set
  refine Rect.mem_set_unit.mpr fun a => ?_
  fin_cases a
  · show 0 ≤ (y 0).val ∧ (y 0).val < 0 + 128; omega
  · show 256 * (15 - (15 - (y 1).val / 256)) ≤ (y 1).val ∧ (y 1).val < 256 * (15 - (15 - (y 1).val / 256)) + 256; omega

end Chunk

set_option maxHeartbeats 1000000 in
/-- THE BODY at grid point `i`: from the slots as the point finds them, the ids table, the point's ids block and any contents of
    the result block, to the slots as the next point finds them and the result block at `outBlk`. -/
theorem body (hid : ∀ n, (idw tb n).toNat < 64000) (c : Dev nD) (q : PosShare TreeShare) (i : grid0.Coords)
    (arg2 : Memref sig .tc .vmem S128x1 .i32) (harg2 : arg2.IsWhole) (arg5 : Memref sig .tc .vmem S128x4096 .bf16) (harg5 : arg5.IsWhole)
    (x2 : Vec F S128x1 .i32) (K : PUnit → sProp (MT nD τ sig Unit (Elt F) ℕ (Pipeline.UD sig nD τ) ℕ)) :
    iprop(stateAt tb cd sc c (i 0).val ∗ (tblM.view.loc (c : Thread nD τ) ↦{q} tb) ∗ (∃ W, owes (c : Thread nD τ) 0 W)
      ∗ owns (c : Thread nD τ) arg2 fullShare x2 ∗ (∃ d, owns (c : Thread nD τ) arg5 fullShare d)
      ∗ (iprop(stateAt tb cd sc c ((i 0).val + 1) ∗ (tblM.view.loc (c : Thread nD τ) ↦{q} tb) ∗ (∃ W, owes (c : Thread nD τ) 0 W)
          ∗ owns (c : Thread nD τ) arg2 fullShare x2 ∗ owns (c : Thread nD τ) arg5 fullShare (outBlk tb cd sc x2 (i 0).val)) -∗ K ⟨⟩))
      ⊢ wp frame (wpE (defs₀ (F := F)) Variants.none (c : Thread nD τ) none) Set.univ
        (cc0_q4_embed (F := F) i tblM (Memref.isWhole_whole _) arg2 harg2 srcC (Memref.isWhole_whole _) srcS (Memref.isWhole_whole _) arg5 harg5
            bufC (Memref.isWhole_whole _) bufS (Memref.isWhole_whole _) cc0_scratch2 cc0_scratch3) K := by
  simp only [cc0_q4_embed_eq_skeleton]; unfold cc0_q4_embed_skel
  simp only [k0_part37_eq_skeleton]; unfold k0_part37_skel
  unfold owns
  iintro ⟨HS, HT, HO, ⟨%f2, %hf2, H2⟩, ⟨%d5, %f5, -, H5⟩, Hk⟩
  subst hf2
  sl_rw [bind_assoc]
  sl_rw [part9]
  beta_reduce
  sl_rw [bind_assoc]
  iapply (part10 tb cd sc hid c q i arg2 harg2 arg5 harg5 _) $$ [HS HT]
  · isplitl [HS]; · iexact HS
    iexact HT
  iintro ⟨HS, HI, HT⟩
  beta_reduce
  sl_rw [bind_assoc]
  sl_rw [part11]
  beta_reduce
  sl_rw [bind_assoc]
  iapply (part12 tb cd sc hid c q i arg2 harg2 arg5 harg5 _ _ _) $$ [HI HT]
  · isplitl [HI]; · iexact HI
    iexact HT
  iintro ⟨HN, HT⟩
  beta_reduce
  sl_rw [bind_assoc]
  sl_rw [part13]
  beta_reduce
  sl_rw [bind_assoc]
  iapply (part14 tb cd sc c i arg2 harg2 arg5 harg5 _ _ _) $$ [HS HO]
  · isplitl [HS]; · iexact HS
    iexact HO
  iintro ⟨HR, HO⟩
  unfold ready
  icases HR with ⟨⟨HC1, HC2, HC3⟩, HS1, HS2, HS3⟩
  beta_reduce
  sl_exec
  iapply (loadS tb sc c (congrArg (fun k => ![k, 0, 0]) (slot_eq i))) $$ HS2
  iintro HS2
  beta_reduce
  sl_exec
  iapply (loadC tb cd c 0 (congrArg (fun k => ![k, 0, 0]) (slot_eq i))) $$ HC2
  iintro HC2
  beta_reduce
  sl_exec
  iapply (loadC tb cd c 1 (congrArg (fun k => ![k, 0, 128]) (slot_eq i))) $$ HC2
  iintro HC2
  beta_reduce
  sl_exec
  iapply (loadC tb cd c 2 (congrArg (fun k => ![k, 0, 256]) (slot_eq i))) $$ HC2
  iintro HC2
  beta_reduce
  sl_exec
  iapply (loadC tb cd c 3 (congrArg (fun k => ![k, 0, 384]) (slot_eq i))) $$ HC2
  iintro HC2
  beta_reduce
  sl_exec
  iapply (loadC tb cd c 4 (congrArg (fun k => ![k, 0, 512]) (slot_eq i))) $$ HC2
  iintro HC2
  beta_reduce
  sl_exec
  iapply (loadC tb cd c 5 (congrArg (fun k => ![k, 0, 640]) (slot_eq i))) $$ HC2
  iintro HC2
  beta_reduce
  sl_exec
  iapply (loadC tb cd c 6 (congrArg (fun k => ![k, 0, 768]) (slot_eq i))) $$ HC2
  iintro HC2
  beta_reduce
  sl_exec
  iapply (loadC tb cd c 7 (congrArg (fun k => ![k, 0, 896]) (slot_eq i))) $$ HC2
  iintro HC2
  beta_reduce
  sl_exec
  iapply (loadC tb cd c 8 (congrArg (fun k => ![k, 0, 1024]) (slot_eq i))) $$ HC2
  iintro HC2
  beta_reduce
  sl_exec
  iapply (loadC tb cd c 9 (congrArg (fun k => ![k, 0, 1152]) (slot_eq i))) $$ HC2
  iintro HC2
  beta_reduce
  sl_exec
  iapply (loadC tb cd c 10 (congrArg (fun k => ![k, 0, 1280]) (slot_eq i))) $$ HC2
  iintro HC2
  beta_reduce
  sl_exec
  iapply (loadC tb cd c 11 (congrArg (fun k => ![k, 0, 1408]) (slot_eq i))) $$ HC2
  iintro HC2
  beta_reduce
  sl_exec
  iapply (loadC tb cd c 12 (congrArg (fun k => ![k, 0, 1536]) (slot_eq i))) $$ HC2
  iintro HC2
  beta_reduce
  sl_exec
  iapply (loadC tb cd c 13 (congrArg (fun k => ![k, 0, 1664]) (slot_eq i))) $$ HC2
  iintro HC2
  beta_reduce
  sl_exec
  iapply (loadC tb cd c 14 (congrArg (fun k => ![k, 0, 1792]) (slot_eq i))) $$ HC2
  iintro HC2
  beta_reduce
  sl_exec
  iapply (loadC tb cd c 15 (congrArg (fun k => ![k, 0, 1920]) (slot_eq i))) $$ HC2
  iintro HC2
  beta_reduce
  sl_exec
  sl_step
  iapply Hk
  isplitl [HC1 HC2 HC3 HS1 HS2 HS3 HN]
  · iapply (state_next tb cd sc c _ (i 0).isLt)
    isplitr [HN]
    · unfold ready
      isplitl [HC1 HC2 HC3]
      · isplitl [HC1]; · iexact HC1
        isplitl [HC2]; · iexact HC2
        iexact HC3
      · isplitl [HS1]; · iexact HS1
        isplitl [HS2]; · iexact HS2
        iexact HS3
    iexact HN
  isplitl [HT]; · iexact HT
  isplitl [HO]; · iexact HO
  isplitl [H2]
  · iexists f2; isplitr; · ipureintro; rfl
    iexact H2
  iexists _; isplitr
  swap; · iexact H5
  ipureintro
  refine (read_pieces tb cd sc _ _ (arg2.view.readAt (Elt F) (Rect.unit (s := S128x1) ![0, 0] S128x1.size inb_S128x1_S128x1_0_0).toLoadRect f2) (i 0).val _ ?_).trans
    (congrArg (fun x => outBlk tb cd sc x (i 0).val) (View.readAt_full _ _ _))
  sl_unfold_run_names
  refine congrArg₂ List.cons ?_ ?_
  · rfl
  repeat' refine congrArg₂ List.cons ?_ ?_
  all_goals rfl

end Cert.KernelIdeal.Proof

end
-- ==== Proof.KernelIdealFrame.lean ====
/-
  The kernel's launch: from the body at one grid point to the whole program's run, and the frame.
-/
module

public import proofs.«01_k».proof.Proof.KernelIdealBody

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat BodyObligation)

variable {F : FTy → Type} [FloatOps F]

local notation "𝕄" => MT nD τ sig Unit (Elt F) ℕ (Pipeline.UD sig nD τ) ℕ

section

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region is its host operations. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The prefetched table -/

/-- The table's contents when the region is entered (there is one device: device 0's). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so any contents are admissible. -/
abbrev adm : (pcfg0 (F := F)).Adm := ⟨tbl m, trivial⟩
abbrev cfgM : Pipeline.Cfg sig Λ₀ := cfg0 (adm m)
/-- The half of the table that the region hands the body. -/
theorem PhiT0_eq (c : Dev nD) : (Pipeline.ΦT pre0 (tbl m) c : sProp 𝕄) = iprop(tblM.view.loc (c : Thread nD τ) ↦{fullShare.right} V m c main_v0) := by
  obtain rfl : c = 0 := Subsingleton.elim _ _
  unfold Pipeline.ΦT Pipeline.prefHeld
  rw [show (Finset.univ : Finset (Fin 1)) = {(0 : Fin 1)} from by decide, bigSep_singleton]
  rfl

/-! ## What the region holds between points -/

/-- The body's own semaphores, and the operands it copies from. -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (semC 0)) 0 ∗ semVal ((c : Thread nD τ), .dma (semC 1)) 0
          ∗ semVal ((c : Thread nD τ), .dma (semS 0)) 0 ∗ semVal ((c : Thread nD τ), .dma (semS 1)) 0) := by
  rw [Pipeline.ownSems0_eq_of_list c osem0 [0, 1, 2, 3] (by decide) (by decide)]; rfl
def H0 : Finset (Ref sig .tc) := {main_v3, main_v6}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((srcC.view.loc (c : Thread nD τ) ↦{fullShare} V m c main_v3) ∗ (srcS.view.loc (c : Thread nD τ) ↦{fullShare} V m c main_v6)) := by
  rw [BI.bigSep_eq_bigSepL_of_eq [main_v3, main_v6] (by decide) (by decide)]; rfl

/-- What the region holds before point `n`: the slots, the table, the generator's register, and what is left of the
    sources' shares. -/
def held (c : Dev nD) (n : ℕ) : sProp 𝕄 :=
  iprop(stateAt (V m c main_v0) (V m c main_v3) (V m c main_v6) c n ∗ (tblM.view.loc (c : Thread nD τ) ↦{fullShare.right} V m c main_v0)
    ∗ (∃ r, prngReg c r)
    ∗ (srcC.view.loc (c : Thread nD τ) ↦{Transfers.shareDrop fullShare 2} V m c main_v3)
    ∗ (srcS.view.loc (c : Thread nD τ) ↦{Transfers.shareDrop fullShare 2} V m c main_v6))

/-- The two slots are disjoint and make up each scratch. -/
theorem slotC_disjoint : Disjoint (slotC 0) (slotC 1) := Finset.disjoint_left.mpr fun y h h' => by
  have h := (Finset.mem_filter.mp h).2; have h' := (Finset.mem_filter.mp h').2; omega
theorem slotS_disjoint : Disjoint (slotS 0) (slotS 1) := Finset.disjoint_left.mpr fun y h h' => by
  have h := (Finset.mem_filter.mp h).2; have h' := (Finset.mem_filter.mp h').2; omega
theorem slotC_cover : slotC 0 ∪ slotC 1 = Finset.univ := Finset.ext fun y => by
  have : (y 0).val < 2 := (y 0).isLt
  simp only [slotC, Finset.mem_union, Finset.mem_filter, Finset.mem_univ, true_and, iff_true]; omega
theorem slotS_cover : slotS 0 ∪ slotS 1 = Finset.univ := Finset.ext fun y => by
  have : (y 0).val < 2 := (y 0).isLt
  simp only [slotS, Finset.mem_union, Finset.mem_filter, Finset.mem_univ, true_and, iff_true]; omega

/-- A scratch is its two slots, at some contents each. -/
theorem scratchC (c : Dev nD) : (iprop(∃ f : Buf (Elt F) ((c : Thread nD τ).loc cc0_scratch0), ((c : Thread nD τ).loc cc0_scratch0) ↦{fullShare} f) : sProp 𝕄)
    ⊣⊢ iprop((∃ f, bufC.view.loc (c : Thread nD τ) ↦[slotC 0]{fullShare} f) ∗ (∃ f, bufC.view.loc (c : Thread nD τ) ↦[slotC 1]{fullShare} f)) := by
  constructor
  · iintro ⟨%f, H⟩
    ihave H' := ((pointsTo_union (Val := Elt F) (ℓ := bufC.view.loc (c : Thread nD τ)) (q := fullShare) (f := f) slotC_disjoint).1) $$ [H]
    · rw [slotC_cover]; iexact H
    icases H' with ⟨H0, H1⟩
    isplitl [H0]; · iexists f; iexact H0
    iexists f; iexact H1
  · iintro ⟨⟨%f, H0⟩, %g, H1⟩
    ihave H' := (pointsTo_join (Val := Elt F) (ℓ := bufC.view.loc (c : Thread nD τ)) (q := fullShare) (f := f) (g := g) slotC_disjoint) $$ [H0 H1]
    · isplitl [H0]; · iexact H0
      iexact H1
    rw [slotC_cover]
    iexists _; iexact H'
theorem scratchS (c : Dev nD) : (iprop(∃ f : Buf (Elt F) ((c : Thread nD τ).loc cc0_scratch1), ((c : Thread nD τ).loc cc0_scratch1) ↦{fullShare} f) : sProp 𝕄)
    ⊣⊢ iprop((∃ f, bufS.view.loc (c : Thread nD τ) ↦[slotS 0]{fullShare} f) ∗ (∃ f, bufS.view.loc (c : Thread nD τ) ↦[slotS 1]{fullShare} f)) := by
  constructor
  · iintro ⟨%f, H⟩
    ihave H' := ((pointsTo_union (Val := Elt F) (ℓ := bufS.view.loc (c : Thread nD τ)) (q := fullShare) (f := f) slotS_disjoint).1) $$ [H]
    · rw [slotS_cover]; iexact H
    icases H' with ⟨H0, H1⟩
    isplitl [H0]; · iexists f; iexact H0
    iexists f; iexact H1
  · iintro ⟨⟨%f, H0⟩, %g, H1⟩
    ihave H' := (pointsTo_join (Val := Elt F) (ℓ := bufS.view.loc (c : Thread nD τ)) (q := fullShare) (f := f) (g := g) slotS_disjoint) $$ [H0 H1]
    · isplitl [H0]; · iexact H0
      iexact H1
    rw [slotS_cover]
    iexists _; iexact H'

/-- A full share is one part for each slot and what is left. -/
theorem shares (ℓ : Loc nD τ sig) (f : Buf (Elt F) ℓ) : (ℓ ↦{fullShare} f : sProp 𝕄)
    ⊣⊢ iprop((ℓ ↦{shareAt 0} f) ∗ (ℓ ↦{shareAt 1} f) ∗ (ℓ ↦{Transfers.shareDrop fullShare 2} f)) := by
  have h1 : (ℓ ↦{fullShare} f : sProp 𝕄) ⊣⊢ iprop((ℓ ↦{Transfers.shareDrop fullShare 1} f) ∗ ℓ ↦{shareAt 0} f) :=
    pointsTo_share (PosShare.mem_left_op_right _)
  have h2 : (ℓ ↦{Transfers.shareDrop fullShare 1} f : sProp 𝕄) ⊣⊢ iprop((ℓ ↦{Transfers.shareDrop fullShare 2} f) ∗ ℓ ↦{shareAt 1} f) :=
    pointsTo_share (PosShare.mem_left_op_right _)
  constructor
  · refine h1.1.trans ((sep_mono_left h2.1).trans ?_)
    iintro ⟨⟨Hd, H1⟩, H0⟩
    isplitl [H0]; · iexact H0
    isplitl [H1]; · iexact H1
    iexact Hd
  · refine BIBase.Entails.trans ?_ ((sep_mono_left h2.2).trans h1.2)
    iintro ⟨H0, H1, Hd⟩
    isplitl [H1 Hd]
    · isplitl [Hd]; · iexact Hd
      iexact H1
    iexact H0

/-- The slots at rest are the scratches at some contents, the semaphores at zero and the slots' shares of the sources. -/
theorem rest_iff (c : Dev nD) : (Pipeline.ΦD osem0 spec0 H0 (V m) c : sProp 𝕄)
    ⊣⊢ iprop((idle (V m c main_v3) (V m c main_v6) c 0 ∗ idle (V m c main_v3) (V m c main_v6) c 1)
      ∗ (∃ r, prngReg c r)
      ∗ (srcC.view.loc (c : Thread nD τ) ↦{Transfers.shareDrop fullShare 2} V m c main_v3)
      ∗ (srcS.view.loc (c : Thread nD τ) ↦{Transfers.shareDrop fullShare 2} V m c main_v6)) := by
  rw [Pipeline.ΦD_eq, scopedRest0_eq, ownSems00_eq, hbmPts0_eq]
  unfold idle
  constructor
  · iintro ⟨⟨Hb, Hs⟩, Hr, ⟨Q0, Q1, Q2, Q3⟩, HC, HS⟩
    icases (scratchC c).1 $$ Hb with ⟨Hb0, Hb1⟩
    icases (scratchS c).1 $$ Hs with ⟨Hs0, Hs1⟩
    icases (shares (srcC.view.loc (c : Thread nD τ)) _).1 $$ HC with ⟨HC0, HC1, HC⟩
    icases (shares (srcS.view.loc (c : Thread nD τ)) _).1 $$ HS with ⟨HS0, HS1, HS⟩
    isplitl [Hb0 Hs0 Hb1 Hs1 Q0 Q1 Q2 Q3 HC0 HC1 HS0 HS1]
    · isplitl [Q0 Hb0 HC0 Q2 Hs0 HS0]
      · isplitl [Q0 Hb0 HC0]
        · isplitl [Q0]; · iexact Q0
          isplitl [Hb0]; · iexact Hb0
          iexact HC0
        · isplitl [Q2]; · iexact Q2
          isplitl [Hs0]; · iexact Hs0
          iexact HS0
      · isplitl [Q1 Hb1 HC1]
        · isplitl [Q1]; · iexact Q1
          isplitl [Hb1]; · iexact Hb1
          iexact HC1
        · isplitl [Q3]; · iexact Q3
          isplitl [Hs1]; · iexact Hs1
          iexact HS1
    isplitl [Hr]; · iexact Hr
    isplitl [HC]; · iexact HC
    iexact HS
  · iintro ⟨⟨⟨⟨Q0, Hb0, HC0⟩, Q2, Hs0, HS0⟩, ⟨Q1, Hb1, HC1⟩, Q3, Hs1, HS1⟩, Hr, HC, HS⟩
    isplitl [Hb0 Hb1 Hs0 Hs1]
    · isplitl [Hb0 Hb1]
      · iapply (scratchC c).2
        isplitl [Hb0]; · iexact Hb0
        iexact Hb1
      · iapply (scratchS c).2
        isplitl [Hs0]; · iexact Hs0
        iexact Hs1
    isplitl [Hr]; · iexact Hr
    isplitl [Q0 Q1 Q2 Q3]
    · isplitl [Q0]; · iexact Q0
      isplitl [Q1]; · iexact Q1
      isplitl [Q2]; · iexact Q2
      iexact Q3
    isplitl [HC0 HC1 HC]
    · iapply (shares (srcC.view.loc (c : Thread nD τ)) _).2
      isplitl [HC0]; · iexact HC0
      isplitl [HC1]; · iexact HC1
      iexact HC
    · iapply (shares (srcS.view.loc (c : Thread nD τ)) _).2
      isplitl [HS0]; · iexact HS0
      isplitl [HS1]; · iexact HS1
      iexact HS

/-- At the region's entry and exit both slots are at rest. -/
theorem state_ends (c : Dev nD) {n : ℕ} (h : n = 0 ∨ n = 16) : (stateAt (V m c main_v0) (V m c main_v3) (V m c main_v6) c n : sProp 𝕄)
    = iprop(idle (V m c main_v3) (V m c main_v6) c 0 ∗ idle (V m c main_v3) (V m c main_v6) c 1) := by
  unfold stateAt; rw [if_pos h]

/-! ## The proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The result block at point `t`. -/
def outAt (c : Dev nD) (t : Fin (cfgM m).N) : Vec F S128x4096 .bf16 :=
  outBlk (V m c main_v0) (V m c main_v3) (V m c main_v6) (iblk m c 0 t) (grid0.coords t 0).val

/-- What each window's staging buffer holds after the body, and what the region holds between points. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m c t
    | ⟨_ + 2, h⟩ => absurd h (Nat.not_lt.2 (Nat.le_add_left _ _))
  Φ t := held m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := rfl
theorem after0_1 (c : Dev nD) (t : Fin (cfgM m).N) : (dats m 0 c).after 1 t = outAt m c t := rfl
theorem Phi_eq (c : Dev nD) (t : Fin ((cfgM m).N + 1)) : (dats m 0 c).Φ t = held m c t.val := by dsimp only [dats]
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body at every point -/

abbrev ms0_0 (t : Fin (cfgM m).N) : Memref sig .tc .vmem S128x1 .i32 := spec0_0.stage ((cfgM m).slots t 0)
abbrev hs0_0 (t : Fin (cfgM m).N) : (ms0_0 m t).IsWhole := hstage0_0 ((cfgM m).slots t 0)
abbrev ms0_1 (t : Fin (cfgM m).N) : Memref sig .tc .vmem S128x4096 .bf16 := spec0_1.stage ((cfgM m).slots t 1)
abbrev hs0_1 (t : Fin (cfgM m).N) : (ms0_1 m t).IsWhole := hstage0_1 ((cfgM m).slots t 1)

/-- The body at point `t`, on what the pipeline calls it with. -/
abbrev bodyAt0 (t : Fin (cfgM m).N) : Prog (TpuEff nD τ sig (Elt F) Λ₀ .tc) PUnit :=
  cc0_q4_embed (grid0.coords t) tblM (Memref.isWhole_whole _) (ms0_0 m t) (hs0_0 m t) srcC (Memref.isWhole_whole _) srcS (Memref.isWhole_whole _)
    (ms0_1 m t) (hs0_1 m t) bufC (Memref.isWhole_whole _) bufS (Memref.isWhole_whole _) cc0_scratch2 cc0_scratch3

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

/-- On a grid of one axis a point's coordinate is its number. -/
theorem coords_val : ∀ t : Fin grid0.N, (grid0.coords t 0).val = t.val := by
  intro t
  obtain h | h | h | h | h | h | h | h | h | h | h | h | h | h | h | h := fin_N0 t <;> (subst h; decide)

theorem sound_body (hid : ∀ c n, (idw (V m c main_v0) n).toNat < 64000) (c : Dev nD) (t : Fin (cfgM m).N) :
    bodyPre m c t ⊢ wp frame (wpE (defs₀ (F := F)) Variants.none c none) Set.univ (bodyAt0 m t) (fun _ => bodyPost m c t) := by
  unfold bodyPre bodyPost bodyAt0
  rw [Phi_eq, Phi_eq, after0_0, after0_1]
  unfold held Dat.owesAt Pipeline.owesWithin
  rw [show (dats m 0 c).owed t.castSucc = 0 from rfl, show (dats m 0 c).owed t.succ = 0 from rfl,
    show t.castSucc.val = (grid0.coords t 0).val from (coords_val t).symm, show t.succ.val = (grid0.coords t 0).val + 1 from congrArg (· + 1) (coords_val t).symm]
  simp only [before0_0]
  iintro ⟨⟨Hs, Ht, Hr, HC, HS⟩, ⟨%W, -, HW⟩, ⟨%d0, H0⟩, ⟨%d1, H1⟩⟩
  iapply (body (V m c main_v0) (V m c main_v3) (V m c main_v6) (hid c) c fullShare.right (grid0.coords t) (ms0_0 m t) (hs0_0 m t) (ms0_1 m t) (hs0_1 m t) (iblk m c 0 t) _)
  isplitl [Hs]; · iexact Hs
  isplitl [Ht]; · iexact Ht
  isplitl [HW]; · iexists W; iexact HW
  isplitl [H0]; · iexact H0
  isplitl [H1]; · iexists _; iexact H1
  iintro ⟨Hs, Ht, ⟨%W', HW'⟩, H0, H1⟩
  isplitl [Hs Ht Hr HC HS]
  · isplitl [Hs]; · iexact Hs
    isplitl [Ht]; · iexact Ht
    isplitl [Hr]; · iexact Hr
    isplitl [HC]; · iexact HC
    iexact HS
  isplitl [HW']
  · iexists W'; isplitr; · ipureintro; exact fun _ _ => Or.inl trivial
    iexact HW'
  isplitl [H0]; · iexact H0
  iexact H1

theorem defs₀_row (t : Fin (cfgM m).N) :
    defs₀ (F := F) .tc (cfgM m).body ((cfgM m).bodyArgs t ((cfgM m).slots t)) = bodyAt0 m t := by
  unfold defs₀; rw [Defs.onTc_tc]

theorem body_obligation (hid : ∀ c n, (idw (V m c main_v0) n).toNat < 64000) (c : Dev nD) :
    BodyObligation (dats (F := F) m 0 c) (defs₀ (F := F)) Variants.none () Set.univ := fun t => by
  rw [bigSep_W0, bigSep_W0, defs₀_row]
  exact triple_restated (sound_body m hid c t) rfl .rfl fun _ => .rfl

/-- The region's entry and exit. -/
theorem hin (c : Dev nD) : iprop(Pipeline.ΦD osem0 spec0 H0 (V m) c ∗ Pipeline.ΦT pre0 (tbl m) c) ⊢ ((dats m 0 c).Φ 0 : sProp 𝕄) := by
  rw [Phi_eq, PhiT0_eq, show (0 : Fin ((cfgM m).N + 1)).val = 0 from rfl]
  unfold held
  rw [state_ends m c (.inl rfl)]
  iintro ⟨H, Ht⟩
  icases (rest_iff m c).1 $$ H with ⟨Hs, Hr, HC, HS⟩
  isplitl [Hs]; · iexact Hs
  isplitl [Ht]; · iexact Ht
  isplitl [Hr]; · iexact Hr
  isplitl [HC]; · iexact HC
  iexact HS
theorem hout (c : Dev nD) : ((dats m 0 c).Φ (Fin.last _) : sProp 𝕄) ⊢ Pipeline.ΦD osem0 spec0 H0 (V m) c := by
  rw [Phi_eq, show (Fin.last (cfgM m).N).val = 16 from N_0]
  unfold held
  rw [state_ends m c (.inr rfl)]
  iintro ⟨Hs, Ht, Hr, HC, HS⟩
  iapply (rest_iff m c).2
  isplitl [Hs]; · iexact Hs
  isplitl [Hr]; · iexact Hr
  isplitl [HC]; · iexact HC
  iexact HS

/-! ## The run and the frame -/

set_option backward.isDefEq.respectTransparency.types false in
set_option maxHeartbeats 1600000 in
/-- THE LAUNCH: every weakly fair execution terminates; every array of the pipeline ends at what the proof data says, every
    other unscoped buffer at what the region found in it, and every semaphore counter at zero. -/
theorem run_main_quiescent (hid : ∀ c n, (idw (V m c main_v0) n).toNat < 64000) :
    θ_run defs (onTc (τ := τ) (main (F := F))) (s₀ m ρ)
      (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hid c).loose) (hshare := fun c => (dats m 0 c).share_full fun _ => rfl)
    (howed := fun _ _ => rfl) (V := V m) (hmain := hmain m Variants.none) (hA := A_eq m) (hpf := V_pre m) (hin := hin m) (hout := hout m)

/-- THE FRAME: every weakly fair execution terminates with the arguments unchanged and every semaphore counter at zero. -/
theorem frame (hid : ∀ c n, (idw (V m c main_v0) n).toNat < 64000) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of (win := spec0) main_arg0 (by decide) (by decide))).trans (V_main_arg0 m c),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c)⟩, h.2⟩) (run_main_quiescent m ρ hid)

end

end Cert.KernelIdeal.Proof

end
-- ==== Proof.KernelIdealTable.lean ====
/-
  The frame of the kernel under the precondition: the table that the region prefetches is the ids argument.
-/
module

public import proofs.«01_k».proof.Proof.KernelIdealFrame
public import proofs.«01_k».proof.Proof.InTable
public import Idealize.ShloMosaic.Lib.Claim

@[expose] public section

noncomputable section

namespace Cert.KernelIdeal.Proof

open Idealize.ShloMosaic Idealize.ShloMosaic.TcCoe Idealize.ShloMosaic.Tactic
open Idealize.SL.Sem
open Cert.KernelIdeal Cert.KernelIdeal.Gen

variable {F : FTy → Type} [FloatOps F] (m : (ℓ : Loc nD τ sig) → Buf (Elt F) ℓ) (ρ : Dev nD → PrngReg)

/-- The prefetched table is the ids in row-major order. -/
theorem V_main_v0 (c : Dev nD) : V m c main_v0 = shapeCast S2048 (m ((c : Thread nD τ).loc main_arg0)) shapeCasts_S2x1024_S2048 := by
  show StableHlo.after hostOps0 _ (Proc.devRef .tc main_v0) = _
  after_results
  rfl

/-- Under the precondition every id of the table is below the number of rows. -/
theorem table_lt (h : ∀ c : Dev nD, Cert.Pre_ids_in_table.fn (F := F) (m ((c : Thread nD τ).loc main_arg0)) (m ((c : Thread nD τ).loc main_arg1)) (m ((c : Thread nD τ).loc main_arg2)) = fun _ => 1#1)
    (c : Dev nD) (n : ℕ) : (idw (V m c main_v0) n).toNat < 64000 := by
  rw [V_main_v0]; exact Cert.Pre_ids_in_table.id_lt (h c) _

/-- THE FRAME under the precondition. -/
theorem frame_pre (h : ∀ c : Dev nD, Cert.Pre_ids_in_table.fn (F := F) (m ((c : Thread nD τ).loc main_arg0)) (m ((c : Thread nD τ).loc main_arg1)) (m ((c : Thread nD τ).loc main_arg2)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame m ρ (table_lt m h)

end Cert.KernelIdeal.Proof

end
-- ==== Proof.HalfWord.lean ====
/- The half-precision decode on integer words, against the value of the half it decodes: the kernel takes the sign, exponent and fraction of
   a half apart with integer operations, and either converts the magnitude (subnormals) or reads a rebuilt 32-bit pattern as a float. -/
module

public import Idealize.ShloMosaic.Lib.Pointwise
import Mathlib.Tactic.NormNum
import Mathlib.Tactic.Ring
import Mathlib.Tactic.IntervalCases
import Mathlib.Data.Nat.Bitwise

@[expose] public section

noncomputable section

namespace Cert.HalfWord

open Idealize.ShloMosaic

/-- What an IEEE pattern denotes, read off its sign `S`, exponent field `E` and fraction `T` as numbers. -/
def valueOf (e m S E T : ℕ) : EReal :=
  let sgn : ℝ := if S = 1 then -1 else 1
  if E = 2 ^ e - 1 then (if T = 0 then (if S = 1 then ⊥ else ⊤) else ⊥)
  else if E = 0 then ((sgn * T * (2 : ℝ) ^ (1 - ((2 : ℤ) ^ (e - 1) - 1) - m : ℤ) : ℝ) : EReal)
  else ((sgn * (2 ^ m + T : ℕ) * (2 : ℝ) ^ ((E : ℤ) - ((2 : ℤ) ^ (e - 1) - 1) - m) : ℝ) : EReal)

theorem valueOf_top (e m S E T : ℕ) (h : E = 2 ^ e - 1) : valueOf e m S E T = if T = 0 then (if S = 1 then ⊥ else ⊤) else ⊥ := by
  unfold valueOf
  exact if_pos h

theorem valueOf_normal (e m S E T : ℕ) (h : E ≠ 2 ^ e - 1) (h' : E ≠ 0) : valueOf e m S E T
    = (((if S = 1 then -1 else 1 : ℝ) * (2 ^ m + T : ℕ) * (2 : ℝ) ^ ((E : ℤ) - ((2 : ℤ) ^ (e - 1) - 1) - m) : ℝ) : EReal) := by
  unfold valueOf
  exact (if_neg h).trans (if_neg h')

/-- A pattern whose number is `S · 2^(e+m) + E · 2^m + T` denotes `valueOf` of the three fields. -/
theorem ieee_eq (e m : ℕ) {w : ℕ} (b : BitVec w) (S E T : ℕ) (hS : S < 2) (hE : E < 2 ^ e) (hT : T < 2 ^ m)
    (hb : b.toNat = S * 2 ^ (e + m) + E * 2 ^ m + T) : Ideal.ieee e m b = valueOf e m S E T := by
  have hb' : b.toNat = (S * 2 ^ e + E) * 2 ^ m + T := by rw [hb, pow_add]; ring
  have e0 : (b.extractLsb' 0 m).toNat = T := by
    rw [BitVec.extractLsb'_toNat, hb', Nat.shiftRight_zero, Nat.mul_add_mod', Nat.mod_eq_of_lt hT]
  have eq1 : b.toNat >>> m = S * 2 ^ e + E := by
    rw [hb', Nat.shiftRight_eq_div_pow, Nat.add_div_of_dvd_right (Dvd.intro_left _ rfl), Nat.mul_div_cancel _ (Nat.two_pow_pos m), Nat.div_eq_of_lt hT, Nat.add_zero]
  have e1 : (b.extractLsb' m e).toNat = E := by
    rw [BitVec.extractLsb'_toNat, eq1, Nat.mul_add_mod', Nat.mod_eq_of_lt hE]
  have e2 : (b.extractLsb' (e + m) 1).toNat = S := by
    rw [BitVec.extractLsb'_toNat, Nat.add_comm, Nat.shiftRight_add, eq1, Nat.shiftRight_eq_div_pow, Nat.add_div_of_dvd_right (Dvd.intro_left _ rfl), Nat.mul_div_cancel _ (Nat.two_pow_pos e), Nat.div_eq_of_lt hE, Nat.add_zero]
    omega
  have e3 : (b.extractLsb' (e + m) 1 == 1#1) = decide (S = 1) := by
    rw [Bool.eq_iff_iff, beq_iff_eq, decide_eq_true_iff, ← BitVec.toNat_inj, e2]
    exact Iff.rfl
  unfold Ideal.ieee valueOf
  simp only [e0, e1, e3, decide_eq_true_eq]

/-- The kernel's decode of a half, given as the low sixteen bits `u` of a word. -/
def decode (u : BitVec 32) : EReal :=
  let sign := IntOp.shli .vector (IntOp.andi u 32768#32) 16#32
  let mag := IntOp.andi u 32767#32
  let shifted := IntOp.shli .vector mag 13#32
  let small : EReal := (FloatOps.sitofp (F := Ideal) .f32 mag : EReal) * Ideal.ofBits .f32 864026624#32
  Scalar.select (IntOp.cmpi .slt mag 1024#32)
    (Scalar.select (IntOp.cmpi .ne sign 0#32) (small * Ideal.ofBits .f32 3212836864#32) small)
    (Scalar.select (IntOp.cmpi .sge mag 31744#32)
      (Ideal.ofBits .f32 (IntOp.ori (IntOp.ori shifted 2139095040#32) sign))
      (Ideal.ofBits .f32 (IntOp.ori (IntOp.addi shifted 939524096#32) sign)))

theorem select_ofBool {α : Type} (p : Bool) (a b : α) : Scalar.select (BitVec.ofBool p) a b = if p then a else b := by
  cases p <;> rfl

/-- The decode is the value of the half. -/
theorem decode_eq (h : BitVec 16) : decode (h.setWidth 32) = Ideal.ofBits .f16 h := by
  obtain ⟨S, E, T, hS, hE, hT, hh⟩ : ∃ S E T : ℕ, S < 2 ∧ E < 32 ∧ T < 1024 ∧ h.toNat = S * 32768 + E * 1024 + T :=
    ⟨h.toNat / 32768, h.toNat / 1024 % 32, h.toNat % 1024, by omega, by omega, by omega, by omega⟩
  have hu : (h.setWidth 32).toNat = S * 32768 + E * 1024 + T := by
    rw [BitVec.toNat_setWidth, hh]; omega
  have hmag : (IntOp.andi (h.setWidth 32) 32767#32).toNat = E * 1024 + T := by
    show ((h.setWidth 32) &&& 32767#32).toNat = _
    rw [BitVec.toNat_and, hu, show (32767#32).toNat = 2 ^ 15 - 1 from rfl, Nat.and_two_pow_sub_one_eq_mod]
    omega
  have hsgn : (IntOp.andi (h.setWidth 32) 32768#32).toNat = S * 32768 := by
    show ((h.setWidth 32) &&& 32768#32).toNat = _
    rw [BitVec.toNat_and, hu, show (32768#32).toNat = 2 ^ 15 from rfl, Nat.and_two_pow, Nat.testBit_eq_decide_div_mod_eq]
    have : (S * 32768 + E * 1024 + T) / 2 ^ 15 % 2 = S := by omega
    rw [this]
    interval_cases S <;> rfl
  have hrhs : Ideal.ofBits .f16 h = valueOf 5 10 S E T := ieee_eq 5 10 h S E T hS hE hT (by rw [hh]; omega)
  rw [hrhs]
  have hmagI : (IntOp.andi (h.setWidth 32) 32767#32).toInt = ((E * 1024 + T : ℕ) : ℤ) := by
    rw [BitVec.toInt_eq_toNat_of_lt (by rw [hmag]; omega), hmag]
  dsimp only [decode]
  generalize IntOp.andi (h.setWidth 32) 32767#32 = mag at hmag hmagI
  generalize IntOp.andi (h.setWidth 32) 32768#32 = sw at hsgn
  have hsign : (IntOp.shli .vector sw 16#32).toNat = S * 2147483648 := by
    rw [show IntOp.shli .vector sw 16#32 = sw <<< (16#32).toNat from rfl, BitVec.toNat_shiftLeft, hsgn, Nat.shiftLeft_eq, show (16#32).toNat = 16 from rfl]
    omega
  have hshift : (IntOp.shli .vector mag 13#32).toNat = E * 8388608 + T * 8192 := by
    rw [show IntOp.shli .vector mag 13#32 = mag <<< (13#32).toNat from rfl, BitVec.toNat_shiftLeft, hmag, Nat.shiftLeft_eq, show (13#32).toNat = 13 from rfl]
    omega
  generalize IntOp.shli .vector sw 16#32 = sign at hsign ⊢
  generalize IntOp.shli .vector mag 13#32 = shifted at hshift ⊢
  have hneg : IntOp.cmpi .ne sign 0#32 = BitVec.ofBool (decide (S = 1)) := by
    show BitVec.ofBool (sign != 0#32) = _
    refine congrArg BitVec.ofBool ?_
    rw [Bool.eq_iff_iff, bne_iff_ne, decide_eq_true_iff, Ne, ← BitVec.toNat_inj, hsign, show (0#32).toNat = 0 from rfl]
    omega
  have hlt : IntOp.cmpi .slt mag 1024#32 = BitVec.ofBool (decide (E = 0)) := by
    show BitVec.ofBool (decide (mag.toInt < (1024#32).toInt)) = _
    rw [hmagI, show (1024#32).toInt = 1024 by decide]
    refine congrArg BitVec.ofBool (decide_eq_decide.mpr ?_)
    exact ⟨fun _ => by omega, fun _ => by omega⟩
  have hge : IntOp.cmpi .sge mag 31744#32 = BitVec.ofBool (decide (E = 31)) := by
    show BitVec.ofBool (decide ((31744#32).toInt ≤ mag.toInt)) = _
    rw [hmagI, show (31744#32).toInt = 31744 by decide]
    refine congrArg BitVec.ofBool (decide_eq_decide.mpr ?_)
    exact ⟨fun _ => by omega, fun _ => by omega⟩
  have hor : ∀ (x : BitVec 32), x.toNat < 2147483648 → (IntOp.ori x sign).toNat = S * 2147483648 + x.toNat := by
    intro x hx
    show (x ||| sign).toNat = _
    rw [BitVec.toNat_or, hsign, Nat.or_comm, Nat.mul_comm S, show 2147483648 = 2 ^ 31 from rfl, ← Nat.two_pow_add_eq_or_of_lt (by omega)]
  simp only [hneg, hlt, hge, select_ofBool, decide_eq_true_eq]
  have hsm : (FloatOps.sitofp (F := Ideal) .f32 mag : EReal) = (((E * 1024 + T : ℕ) : ℝ) : EReal) := by
    show ((mag.toInt : ℝ) : EReal) = _
    rw [hmagI, Int.cast_natCast]
  have hunit : (Ideal.ofBits .f32 864026624#32 : EReal) = (((2 : ℝ) ^ (-24 : ℤ) : ℝ) : EReal) := by
    show Ideal.ieee 8 23 864026624#32 = _
    rw [ieee_eq 8 23 864026624#32 0 103 0 (by omega) (by omega) (by omega) rfl]
    simp only [valueOf]
    norm_num
  have hneg1 : (Ideal.ofBits .f32 3212836864#32 : EReal) = ((-1 : ℝ) : EReal) := by
    show Ideal.ieee 8 23 3212836864#32 = _
    rw [ieee_eq 8 23 3212836864#32 1 127 0 (by omega) (by omega) (by omega) rfl]
    simp only [valueOf]
    norm_num
  by_cases h0 : E = 0
  · rw [if_pos h0, hsm, hunit]
    subst h0
    interval_cases S
    · rw [if_neg (by omega), ← EReal.coe_mul]
      simp only [valueOf]
      norm_num
    · rw [if_pos rfl, hneg1, ← EReal.coe_mul, ← EReal.coe_mul]
      simp only [valueOf]
      norm_num
  rw [if_neg h0]
  by_cases h31 : E = 31
  · rw [if_pos h31]
    subst h31
    have hx : (IntOp.ori shifted 2139095040#32).toNat = 255 * 8388608 + T * 8192 := by
      show (shifted ||| 2139095040#32).toNat = _
      rw [BitVec.toNat_or, hshift, show 31 * 8388608 + T * 8192 = 2 ^ 23 * 31 ||| T * 8192 by rw [← Nat.two_pow_add_eq_or_of_lt (by omega)],
        Nat.or_comm (2 ^ 23 * 31), Nat.or_assoc, show 2 ^ 23 * 31 ||| (2139095040#32).toNat = 2 ^ 23 * 255 by decide, Nat.or_comm,
        ← Nat.two_pow_add_eq_or_of_lt (by omega)]
    have hb : (IntOp.ori (IntOp.ori shifted 2139095040#32) sign).toNat = S * 2 ^ (8 + 23) + 255 * 2 ^ 23 + T * 8192 := by
      rw [hor _ (by rw [hx]; omega), hx]
      omega
    show Ideal.ieee 8 23 _ = _
    rw [ieee_eq 8 23 _ S 255 (T * 8192) hS (by omega) (by omega) hb]
    rw [valueOf_top 8 23 S 255 _ rfl, valueOf_top 5 10 S 31 _ rfl]
    by_cases hT0 : T = 0
    · rw [if_pos hT0, if_pos (show T * 8192 = 0 by omega)]
    · rw [if_neg hT0, if_neg (show ¬ T * 8192 = 0 by omega)]
  · rw [if_neg h31]
    have hb : (IntOp.ori (IntOp.addi shifted 939524096#32) sign).toNat
        = S * 2 ^ (8 + 23) + (E + 112) * 2 ^ 23 + T * 8192 := by
      have : (IntOp.addi shifted 939524096#32).toNat = (E + 112) * 8388608 + T * 8192 := by
        show (shifted + 939524096#32).toNat = _
        rw [BitVec.toNat_add, hshift, show (939524096#32).toNat = 939524096 from rfl]
        omega
      rw [hor _ (by rw [this]; omega), this]
      omega
    show Ideal.ieee 8 23 _ = _
    rw [ieee_eq 8 23 _ S (E + 112) (T * 8192) hS (by omega) (by omega) hb]
    rw [valueOf_normal 8 23 S (E + 112) _ (by omega) (by omega), valueOf_normal 5 10 S E _ (by omega) h0]
    refine congrArg (Real.toEReal) ?_
    rw [show (((2 ^ 23 + T * 8192 : ℕ) : ℝ)) = ((2 ^ 10 + T : ℕ) : ℝ) * (2 : ℝ) ^ (13 : ℤ) by push_cast; norm_num; ring, ← mul_assoc, mul_assoc,
      ← zpow_add₀ (by norm_num : (2 : ℝ) ≠ 0)]
    refine congrArg _ (congrArg _ ?_)
    push_cast
    ring

end Cert.HalfWord
-- ==== Proof.KernelIdealChunk.lean ====
/- One column chunk of the kernel's result block, read at an index over the extended reals: column `2 l + q` of the chunk is nibble `q` of the
   code byte of lane `l`, less 8, times the half of the lane's group. -/
module

public import proofs.«01_k».proof.Proof.KernelIdealBody
public import proofs.«01_k».proof.Proof.HalfWord

@[expose] public section
noncomputable section

namespace Cert.KernelIdeal.Proof
open Cert.KernelIdeal Cert.KernelIdeal.Gen Idealize.ShloMosaic Idealize.ShloMosaic.TcCoe Idealize.SL.Sem

/-- The column that row `r` of the interleaving matrix sends its operand to. -/
def target (r : ℕ) : ℕ := if r < 128 then 2 * r else 2 * (r - 128) + 1

set_option maxRecDepth 16384 in
/-- The interleaving matrix has a one at `(r, target r)` and zeros elsewhere. -/
theorem perm_apply (r c : Fin 256) : k0_pay12 (F := Ideal) (ix2 r c) = if c.val = target r.val then 1 else 0 := by
  have hw : ∀ r : Fin 256, Scalar.select (IntOp.cmpi .slt (BitVec.ofNat 32 r.val) 128#32) (IntOp.muli 2#32 (BitVec.ofNat 32 r.val))
      (IntOp.addi (IntOp.muli 2#32 (IntOp.subi (BitVec.ofNat 32 r.val) 128#32)) 1#32) = BitVec.ofNat 32 (target r.val) := by decide +kernel
  have ht : target r.val < 256 := by have := r.isLt; unfold target; split <;> omega
  pointwise [k0_pay12]
  rw [hw]
  have he : IntOp.cmpi .eq (BitVec.ofNat 32 c.val) (BitVec.ofNat 32 (target r.val)) = BitVec.ofBool (decide (c.val = target r.val)) := by
    have hc := c.isLt
    show BitVec.ofBool (BitVec.ofNat 32 c.val == BitVec.ofNat 32 (target r.val)) = _
    refine congrArg BitVec.ofBool ?_
    rw [Bool.eq_iff_iff, beq_iff_eq, decide_eq_true_iff, ← BitVec.toNat_inj, BitVec.toNat_ofNat, BitVec.toNat_ofNat]
    omega
  rw [he]
  by_cases h : c.val = target r.val
  · rw [if_pos h, decide_eq_true h]
    show (((((1 : ℤ)) : ℝ)) : EReal) = 1
    rw [Int.cast_one, EReal.coe_one]
  · rw [if_neg h, decide_eq_false h]
    show (((((0 : ℤ)) : ℝ)) : EReal) = 0
    rw [Int.cast_zero, EReal.coe_zero]

set_option maxRecDepth 16384 in
/-- Lane `l` of column chunk `j` reads group `8 j + l / 16`. -/
theorem groupIx_apply (j : Fin 16) (r l : Fin 128) : (groupIx (BitVec.ofNat 32 (8 * j.val)) (ix2 r l)).toNat = l.val / 16 + 8 * j.val := by
  pointwise [groupIx]
  clear r
  revert l j
  decide +kernel

/-- The value of nibble `q` of a code byte at the scale given by a half. -/
def cell (b : BitVec 8) (h : BitVec 16) (q : ℕ) : EReal := (((b.toNat / 16 ^ q % 16 : ℕ) : ℝ) - 8 : ℝ) * Ideal.ofBits .f16 h

set_option maxRecDepth 16384 in
/-- A nibble of a word at an index. -/
theorem nibble_apply (w : IVec S128x128 32) (s : FVec Ideal S128x128 .f32) (r l : Fin 128) (n : ℕ) (hn : (w (ix2 r l)).toNat % 16 = n) :
    nibble w s (ix2 r l) = (((n : ℝ) - 8 : ℝ) : EReal) * s (ix2 r l) := by
  pointwise [nibble]
  refine congrArg (· * s (ix2 r l)) ?_
  show (((IntOp.subi (IntOp.andi (w (ix2 r l)) 15#32) 8#32).toInt : ℝ) : EReal) = _
  have h1 : (IntOp.andi (w (ix2 r l)) 15#32).toNat = n := by
    show (w (ix2 r l) &&& 15#32).toNat = n
    rw [BitVec.toNat_and, show (15#32).toNat = 2 ^ 4 - 1 from rfl, Nat.and_two_pow_sub_one_eq_mod, ← hn]
  have h2 : (IntOp.subi (IntOp.andi (w (ix2 r l)) 15#32) 8#32).toInt = (n : ℤ) - 8 := by
    show (IntOp.andi (w (ix2 r l)) 15#32 - 8#32).toInt = _
    rw [BitVec.toInt_sub, BitVec.toInt_eq_toNat_of_lt (by rw [h1]; omega), h1, show (8#32).toInt = 8 from rfl]
    exact Int.bmod_eq_of_le (by omega) (by omega)
  rw [h2, Int.cast_sub, Int.cast_natCast]
  rfl

/-- The code words of a chunk, each shifted down to its token's byte. -/
def byteWords (x2 : Vec Ideal S128x1 .i32) (cw : Vec Ideal S1x128x128 .i32) : IVec S128x128 32 :=
  shrui (shapeCast S128x128 cw shapeCasts_S1x128x128_S128x128) (k0_pay11 (k0_pay3 x2))

set_option maxRecDepth 16384 in
/-- The product with the interleaving matrix picks one nibble: column `c` of the chunk is nibble `c % 2` of lane `c / 2`. -/
theorem chunk_pick (x2 : Vec Ideal S128x1 .i32) (sw : Vec Ideal S1x128x128 .i32) (o : BitVec 32) (cw : Vec Ideal S1x128x128 .i32) (r : Fin 128) (c : Fin 256) :
    chunk x2 sw o cw (ix2 r c) = nibble (if c.val % 2 = 0 then byteWords x2 cw else shrui (byteWords x2 cw) (broadcast S128x128 4#32))
      (dynamicGather 1 (scal x2 sw) (groupIx o)) (ix2 r ⟨c.val / 2, by have := c.isLt; omega⟩) := by
  have hc := c.isLt
  pointwise [chunk]
  simp only [perm_apply, target]
  by_cases h : c.val % 2 = 0
  · rw [if_pos h, Finset.sum_eq_single (⟨c.val / 2, by omega⟩ : Fin 128), Finset.sum_eq_zero, add_zero]
    · rw [if_pos (by simp only []; split <;> omega), mul_one]; rfl
    · intro x _
      rw [if_neg (by have := x.isLt; split <;> omega), mul_zero]
    · intro x _ hx
      rw [if_neg (fun e => hx (Fin.ext (by have := x.isLt; dsimp only; split at e <;> omega))), mul_zero]
    · intro hx; exact absurd (Finset.mem_univ _) hx
  · rw [if_neg h, Finset.sum_eq_zero, zero_add, Finset.sum_eq_single (⟨c.val / 2, by omega⟩ : Fin 128)]
    · rw [if_pos (by simp only []; split <;> omega), mul_one]; rfl
    · intro x _ hx
      rw [if_neg (fun e => hx (Fin.ext (by have := x.isLt; dsimp only; split at e <;> omega))), mul_zero]
    · intro hx; exact absurd (Finset.mem_univ _) hx
    · intro x _
      rw [if_neg (by have := x.isLt; split <;> omega), mul_zero]

set_option maxRecDepth 16384 in
/-- The scale of a group is the half that the kernel's decode reads in the group's word. -/
theorem scal_apply (x2 : Vec Ideal S128x1 .i32) (sw : Vec Ideal S1x128x128 .i32) (r g : Fin 128) :
    scal x2 sw (ix2 r g) = HalfWord.decode (IntOp.andi (IntOp.shrui .vector (sw (ix3 0 r g)) (IntOp.shli .vector (IntOp.andi (x2 (ix2 r 0)) 1#32) 4#32)) 65535#32) := by
  pointwise [scal, k0_pay10, k0_pay9, k0_pay8, k0_pay7, k0_pay6, k0_pay5, k0_pay4, k0_pay2]
  rfl

set_option maxRecDepth 16384 in
theorem byteWords_apply (x2 : Vec Ideal S128x1 .i32) (cw : Vec Ideal S1x128x128 .i32) (r l : Fin 128) :
    byteWords x2 cw (ix2 r l) = IntOp.shrui .vector (cw (ix3 0 r l)) (IntOp.shli .vector (IntOp.andi (x2 (ix2 r 0)) 3#32) 3#32) := by
  pointwise [byteWords, k0_pay11, k0_pay3, k0_pay2]

end Cert.KernelIdeal.Proof
-- ==== Proof.KernelIdealWords.lean ====
/- The tables of 32-bit words that the kernel's host program lays out, read back as the bytes and halves they hold, and a chunk of the result
   in terms of them. -/
module

public import proofs.«01_k».proof.Proof.KernelIdealChunk
public import Idealize.ShloMosaic.Lib.BitcastConvert

@[expose] public section
noncomputable section

namespace Cert.KernelIdeal.Proof
open Cert.KernelIdeal Cert.KernelIdeal.Gen Idealize.ShloMosaic Idealize.ShloMosaic.TcCoe Idealize.SL.Sem

/-- The code table as words: four rows to a row of words. -/
def wordsC (x : IVec S64000x2048 8) : IVec S16000x2048 32 :=
  Host.bitcastConvertWiden S16000x2048 32 (transpose S16000x2048x4 [0, 2, 1] (shapeCast S16000x4x2048 x shapeCasts_S64000x2048_S16000x4x2048)
    transposes_S16000x4x2048_S16000x2048x4_0_2_1) splits_S16000x2048_w32_S16000x2048x4_w8
/-- The scale table as words: two rows to a row of words. -/
def wordsS (x : IVec S64000x128 16) : IVec S32000x128 32 :=
  Host.bitcastConvertWiden S32000x128 32 (transpose S32000x128x2 [0, 2, 1] (shapeCast S32000x2x128 x shapeCasts_S64000x128_S32000x2x128)
    transposes_S32000x2x128_S32000x128x2_0_2_1) splits_S32000x128_w32_S32000x128x2_w16

set_option maxRecDepth 16384 in
/-- A bit of a code word is a bit of the code byte it holds. -/
theorem wordsC_bit (x : IVec S64000x2048 8) (R : Fin 16000) (C : Fin 2048) (q : ℕ) (hq : q < 32) :
    (wordsC x (ix2 R C)).getLsbD q = (x (ix2 ⟨4 * R.val + q / 8, by have := R.isLt; omega⟩ C)).getLsbD (q % 8) := by
  unfold wordsC
  rw [Host.bitcastConvertWiden_getLsbD _ _ _ _ _ q hq]
  refine congrArg (fun b : BitVec 8 => b.getLsbD (q % 8)) ?_
  have e : Shape.SplitsWords.snoc splits_S16000x2048_w32_S16000x2048x4_w8 (ix2 R C) ⟨q / 8, splits_S16000x2048_w32_S16000x2048x4_w8.div_lt hq⟩
      = ix3 R C ⟨q / 8, by omega⟩ := by
    funext a; fin_cases a <;> rfl
  rw [e]
  pointwise
  refine congrArg x ?_
  congr 2
  omega

set_option maxRecDepth 16384 in
/-- A bit of a scale word is a bit of the half it holds. -/
theorem wordsS_bit (x : IVec S64000x128 16) (R : Fin 32000) (C : Fin 128) (q : ℕ) (hq : q < 32) :
    (wordsS x (ix2 R C)).getLsbD q = (x (ix2 ⟨2 * R.val + q / 16, by have := R.isLt; omega⟩ C)).getLsbD (q % 16) := by
  unfold wordsS
  rw [Host.bitcastConvertWiden_getLsbD _ _ _ _ _ q hq]
  refine congrArg (fun b : BitVec 16 => b.getLsbD (q % 16)) ?_
  have e : Shape.SplitsWords.snoc splits_S32000x128_w32_S32000x128x2_w16 (ix2 R C) ⟨q / 16, splits_S32000x128_w32_S32000x128x2_w16.div_lt hq⟩
      = ix3 R C ⟨q / 16, by omega⟩ := by
    funext a; fin_cases a <;> rfl
  rw [e]
  pointwise
  refine congrArg x ?_
  congr 2
  omega

/-- Shifted down by its byte's position, row `id`'s code word shows row `id`'s byte in its low eight bits. -/
theorem wordsC_byte (x : IVec S64000x2048 8) (id : ℕ) (hid : id < 64000) (C : Fin 2048) :
    (wordsC x (ix2 ⟨id / 4, by omega⟩ C) >>> (8 * (id % 4))).toNat % 256 = (x (ix2 ⟨id, hid⟩ C)).toNat := by
  rw [show (256 : ℕ) = 2 ^ 8 from rfl, ← BitVec.toNat_setWidth]
  refine congrArg BitVec.toNat (BitVec.eq_of_getLsbD_eq fun q hq => ?_)
  rw [BitVec.getLsbD_setWidth, BitVec.getLsbD_ushiftRight, wordsC_bit _ _ _ _ (by omega), decide_eq_true hq, Bool.true_and]
  rw [show (8 * (id % 4) + q) % 8 = q by omega]
  refine congrArg (fun r => (x (ix2 r C)).getLsbD q) (Fin.ext ?_)
  show 4 * (id / 4) + (8 * (id % 4) + q) / 8 = id
  omega

/-- Shifted down by its half's position, row `id`'s scale word shows row `id`'s half in its low sixteen bits. -/
theorem wordsS_half (x : IVec S64000x128 16) (id : ℕ) (hid : id < 64000) (C : Fin 128) :
    (wordsS x (ix2 ⟨id / 2, by omega⟩ C) >>> (16 * (id % 2))) &&& 65535#32 = (x (ix2 ⟨id, hid⟩ C)).setWidth 32 := by
  refine BitVec.eq_of_getLsbD_eq fun q hq => ?_
  have hm : (65535#32).getLsbD q = decide (q < 16) := by
    rw [show (65535#32) = (BitVec.ofNat 32 (2 ^ 16 - 1)) from rfl, BitVec.getLsbD_ofNat, Nat.testBit_two_pow_sub_one, decide_eq_true hq, Bool.true_and]
  rw [BitVec.getLsbD_and, hm, BitVec.getLsbD_setWidth, BitVec.getLsbD_ushiftRight, decide_eq_true hq, Bool.true_and]
  by_cases h16 : q < 16
  · rw [wordsS_bit _ _ _ _ (by omega), decide_eq_true h16, Bool.and_true, show (16 * (id % 2) + q) % 16 = q by omega]
    refine congrArg (fun r => (x (ix2 r C)).getLsbD q) (Fin.ext ?_)
    show 2 * (id / 2) + (16 * (id % 2) + q) / 16 = id
    omega
  · rw [decide_eq_false h16, Bool.and_false, BitVec.getLsbD_of_ge _ _ (by omega)]

/-- The kernel's shift amounts: eight bits per place in a group of four ids, sixteen per place in a group of two. -/
theorem shift_code (w i : BitVec 32) : IntOp.shrui .vector w (IntOp.shli .vector (IntOp.andi i 3#32) 3#32) = w >>> (8 * (i.toNat % 4)) := by
  have h : (IntOp.shli .vector (IntOp.andi i 3#32) 3#32).toNat = 8 * (i.toNat % 4) := by
    show ((i &&& 3#32) <<< (3#32).toNat).toNat = _
    rw [BitVec.toNat_shiftLeft, BitVec.toNat_and, show (3#32).toNat = 2 ^ 2 - 1 from rfl, Nat.and_two_pow_sub_one_eq_mod, Nat.shiftLeft_eq]
    omega
  unfold IntOp.shrui
  rw [if_pos (by rw [h]; omega)]
  show w >>> (IntOp.shli .vector (IntOp.andi i 3#32) 3#32).toNat = _
  rw [h]
theorem shift_scale (w i : BitVec 32) : IntOp.shrui .vector w (IntOp.shli .vector (IntOp.andi i 1#32) 4#32) = w >>> (16 * (i.toNat % 2)) := by
  have h : (IntOp.shli .vector (IntOp.andi i 1#32) 4#32).toNat = 16 * (i.toNat % 2) := by
    show ((i &&& 1#32) <<< (4#32).toNat).toNat = _
    rw [BitVec.toNat_shiftLeft, BitVec.toNat_and, show (1#32).toNat = 2 ^ 1 - 1 from rfl, Nat.and_two_pow_sub_one_eq_mod, Nat.shiftLeft_eq, show (4#32).toNat = 4 from rfl]
    omega
  unfold IntOp.shrui
  rw [if_pos (by rw [h]; omega)]
  show w >>> (IntOp.shli .vector (IntOp.andi i 1#32) 4#32).toNat = _
  rw [h]

end Cert.KernelIdeal.Proof
-- ==== Proof.KernelIdealValue.lean ====
/- The result block of a grid point read at an index over the extended reals: token `r` of the point, column `k`, is nibble `k % 2` of code
   byte `k / 2` of the token's row, less 8, times the half of the row's group `k / 32`. -/
module

public import proofs.«01_k».proof.Proof.KernelIdealWords
public import Idealize.ShloMosaic.Lib.Pipeline.ValueKit.Tiles

@[expose] public section
noncomputable section

namespace Cert.KernelIdeal.Proof
open Cert.KernelIdeal Cert.KernelIdeal.Gen Idealize.ShloMosaic Idealize.ShloMosaic.TcCoe Idealize.SL.Sem

/-- The result at token row `id` and column `k`, from the two tables. -/
def entry (x1 : IVec S64000x2048 8) (x2 : IVec S64000x128 16) (id : Fin 64000) (k : Fin 4096) : EReal :=
  cell (x1 (ix2 id ⟨k.val / 2, by have := k.isLt; omega⟩)) (x2 (ix2 id ⟨k.val / 32, by have := k.isLt; omega⟩)) (k.val % 2)

variable (tb : S2048.Idx → BitVec 32) (x1 : IVec S64000x2048 8) (x2 : IVec S64000x128 16) (ids : Vec Ideal S128x1 .i32) (p : ℕ)
  (hid : ∀ n, (idw (F := Ideal) tb n).toNat < 64000) (hx : ∀ r : Fin 128, ids (ix2 r 0) = idw (F := Ideal) tb (128 * p + r.val))

include hid hx

set_option maxRecDepth 16384 in
/-- Column `c` of chunk `j` is column `256 j + c` of the block. -/
theorem chunk_value (j : Fin 16) (r : Fin 128) (c : Fin 256) :
    chunk (F := Ideal) ids (scalesAt (F := Ideal) tb (wordsS x2) p) (BitVec.ofNat 32 (8 * j.val)) (codesAt (F := Ideal) tb (wordsC x1) p j.val) (ix2 r c)
      = entry x1 x2 ⟨(idw (F := Ideal) tb (128 * p + r.val)).toNat, hid _⟩ ⟨256 * j.val + c.val, by have := j.isLt; have := c.isLt; omega⟩ := by
  have hj := j.isLt
  have hc := c.isLt
  have hi := hid (128 * p + r.val)
  have hS : dynamicGather 1 (scal ids (scalesAt (F := Ideal) tb (wordsS x2) p)) (groupIx (BitVec.ofNat 32 (8 * j.val))) (ix2 r ⟨c.val / 2, by omega⟩)
      = Ideal.ofBits .f16 (x2 (ix2 ⟨(idw (F := Ideal) tb (128 * p + r.val)).toNat, hi⟩ ⟨(256 * j.val + c.val) / 32, by omega⟩)) := by
    have e : dynamicGather 1 (scal ids (scalesAt (F := Ideal) tb (wordsS x2) p)) (groupIx (BitVec.ofNat 32 (8 * j.val))) (ix2 r ⟨c.val / 2, by omega⟩)
        = scal ids (scalesAt (F := Ideal) tb (wordsS x2) p) (ix2 r ⟨(256 * j.val + c.val) / 32, by omega⟩) := by
      unfold dynamicGather
      refine congrArg _ ?_
      funext a
      fin_cases a
      · rfl
      · refine Fin.ext ?_
        show (groupIx _ _).toNat % 128 = (256 * j.val + c.val) / 32
        rw [groupIx_apply]
        show (c.val / 2 / 16 + 8 * j.val) % 128 = _
        omega
    rw [e, scal_apply, hx, shift_scale, ← HalfWord.decode_eq, ← wordsS_half x2 _ hi]
    refine congrArg HalfWord.decode ?_
    refine congrArg (fun w : BitVec 32 => w >>> (16 * ((idw (F := Ideal) tb (128 * p + r.val)).toNat % 2)) &&& 65535#32) ?_
    show wordsS x2 (cS (rwS (F := Ideal) tb (128 * p + r.val)) ((256 * j.val + c.val) / 32)) = _
    refine congrArg (wordsS x2) ?_
    funext a
    fin_cases a
    · refine Fin.ext ?_
      show (idw (F := Ideal) tb (128 * p + r.val) >>> 1).toNat % 32000 = (idw (F := Ideal) tb (128 * p + r.val)).toNat / 2
      rw [BitVec.toNat_ushiftRight, Nat.shiftRight_eq_div_pow]
      omega
    · refine Fin.ext ?_
      show (256 * j.val + c.val) / 32 % 128 = (256 * j.val + c.val) / 32
      omega
  have hB : (byteWords ids (codesAt (F := Ideal) tb (wordsC x1) p j.val) (ix2 r ⟨c.val / 2, by omega⟩)).toNat % 256
      = (x1 (ix2 ⟨(idw (F := Ideal) tb (128 * p + r.val)).toNat, hi⟩ ⟨(256 * j.val + c.val) / 2, by omega⟩)).toNat := by
    rw [byteWords_apply, hx, shift_code, ← wordsC_byte x1 _ hi]
    refine congrArg (fun w : BitVec 32 => BitVec.toNat (w >>> (8 * ((idw (F := Ideal) tb (128 * p + r.val)).toNat % 4))) % 256) ?_
    show wordsC x1 (cC (rwC (F := Ideal) tb (128 * p + r.val)) (128 * j.val + c.val / 2)) = _
    refine congrArg (wordsC x1) ?_
    funext a
    fin_cases a
    · refine Fin.ext ?_
      show (idw (F := Ideal) tb (128 * p + r.val) >>> 2).toNat % 16000 = (idw (F := Ideal) tb (128 * p + r.val)).toNat / 4
      rw [BitVec.toNat_ushiftRight, Nat.shiftRight_eq_div_pow]
      omega
    · refine Fin.ext ?_
      show (128 * j.val + c.val / 2) % 2048 = (256 * j.val + c.val) / 2
      omega
  rw [chunk_pick]
  unfold entry cell
  rw [show (256 * j.val + c.val) % 2 = c.val % 2 by omega]
  by_cases h : c.val % 2 = 0
  · rw [if_pos h, nibble_apply _ _ _ _ _ rfl, hS, h]
    refine congrArg (fun n : ℕ => ((((n : ℝ) - 8 : ℝ)) : EReal) * _) ?_
    rw [← hB, pow_zero, Nat.div_one]
    omega
  · rw [if_neg h, nibble_apply _ _ _ _ _ rfl, hS, show c.val % 2 = 1 by omega]
    refine congrArg (fun n : ℕ => ((((n : ℝ) - 8 : ℝ)) : EReal) * _) ?_
    rw [← hB, pow_one]
    show (byteWords ids (codesAt (F := Ideal) tb (wordsC x1) p j.val) (ix2 r ⟨c.val / 2, by omega⟩) >>> (4#32).toNat).toNat % 16 = _
    rw [BitVec.toNat_ushiftRight, Nat.shiftRight_eq_div_pow, show (4#32).toNat = 4 from rfl]
    omega

set_option maxRecDepth 16384 in
/-- The block of grid point `p` at token `r`, column `k`. -/
theorem outBlk_value (r : Fin 128) (k : Fin 4096) :
    outBlk (F := Ideal) tb (wordsC x1) (wordsS x2) ids p (ix2 r k) = entry x1 x2 ⟨(idw (F := Ideal) tb (128 * p + r.val)).toNat, hid _⟩ k := by
  have hk := k.isLt
  unfold outBlk piece
  refine View.canon_ofFn_unit_eq_of_forall (S := S128x4096) (Val := Elt Ideal) (e := .bf16) (fun j : Fin 16 => ![0, 256 * (15 - j.val)]) S128x256.size
    (fun j => inb_chunk _ (by omega))
    (fun j => chunk (F := Ideal) ids (scalesAt (F := Ideal) tb (wordsS x2) p) (BitVec.ofNat 32 (8 * (15 - j.val))) (codesAt (F := Ideal) tb (wordsC x1) p (15 - j.val)))
    (ix2 r k) _ ?_ ?_
  · refine ⟨⟨15 - k.val / 256, by omega⟩, fun a => ?_⟩
    have hr := r.isLt
    fin_cases a
    · show 0 ≤ r.val ∧ r.val < 0 + 128; omega
    · show 256 * (15 - (15 - k.val / 256)) ≤ k.val ∧ k.val < 256 * (15 - (15 - k.val / 256)) + 256; omega
  · intro j x hxy
    have e0 : r.val = (x 0).val := by have := hxy 0; simpa using this
    have e1 : k.val = 256 * (15 - j.val) + (x 1).val := hxy 1
    have ex : x = ix2 r (x 1 : Fin 256) := by
      funext a
      fin_cases a
      · exact Fin.ext e0.symm
      · rfl
    rw [ex]
    refine (chunk_value tb x1 x2 ids p hid hx ⟨15 - j.val, by omega⟩ r (x 1)).trans ?_
    refine congrArg _ (Fin.ext e1.symm)

end Cert.KernelIdeal.Proof
-- ==== Proof.KernelIdealFinal.lean ====
/-
  The kernel's result array: the blocks of the grid points put together, and the run that ends with it.
-/
module

public import proofs.«01_k».proof.Proof.KernelIdealTable
public import proofs.«01_k».proof.Proof.KernelIdealValue
public import Idealize.ShloMosaic.Lib.Pipeline.ValueKit

@[expose] public section

set_option maxRecDepth 16384

noncomputable section

namespace Cert.KernelIdeal.Proof

open Idealize.ShloMosaic Idealize.ShloMosaic.TcCoe Idealize.ShloMosaic.Tactic
open Idealize.SL.Sem
open Cert.KernelIdeal Cert.KernelIdeal.Gen
open Idealize.ShloMosaic.Pipeline (Dat Window)

variable (m : (ℓ : Loc nD τ sig) → Buf (Elt Ideal) ℓ) (ρ : Dev nD → PrngReg)

/-- The code words the region reads are the code table's. -/
theorem V_main_v3 (c : Dev nD) : V m c main_v3 = wordsC (m ((c : Thread nD τ).loc main_arg1)) := by
  show StableHlo.after hostOps0 _ (Proc.devRef .tc main_v3) = _
  after_results
  rfl
/-- The scale words the region reads are the scale table's. -/
theorem V_main_v6 (c : Dev nD) : V m c main_v6 = wordsS (m ((c : Thread nD τ).loc main_arg2)) := by
  show StableHlo.after hostOps0 _ (Proc.devRef .tc main_v6) = _
  after_results
  rfl
/-- The staged ids are the prefetched table as a column. -/
theorem V_main_v7 (c : Dev nD) : V m c main_v7 = shapeCast S2048x1 (V m c main_v0) shapeCasts_S2048_S2048x1 := by
  rw [V_main_v0]
  show StableHlo.after hostOps0 _ (Proc.devRef .tc main_v7) = _
  after_results
  rfl

/-- The ids block of a grid point starts at its 128 rows. -/
theorem map_ids : ∀ t : Fin grid0.N, cc0_transform_0 (grid0.coords t) 0 = t.val ∧ cc0_transform_0 (grid0.coords t) 1 = 0 := by
  decide +kernel
/-- The result block of a grid point starts at its 128 rows. -/
theorem map_result : ∀ t : Fin grid0.N, cc0_transform_3 (grid0.coords t) 0 = t.val ∧ cc0_transform_3 (grid0.coords t) 1 = 0 := by
  decide +kernel
/-- Every grid point writes its result block back. -/
theorem flush_result : ∀ t : Fin grid0.N, Window.flushOf grid0 true cc0_transform_3 t = true := by
  decide +kernel

/-- The staged ids of grid point `t` are the table's ids of its tokens. -/
theorem iblk_ids (c : Dev nD) (t : Fin (cfgM m).N) (r : Fin 128) :
    iblk m c 0 t (ix2 r 0) = idw (F := Ideal) (V m c main_v0) (128 * t.val + r.val) := by
  have ht : t.val < 16 := t.isLt
  have hr := r.isLt
  show V m c main_v7 ((((cfgM m).win 0).blk t).view.emb (ix2 r 0)) = _
  have e : (((cfgM m).win 0).blk t).view.emb (ix2 r 0) = ix2 (⟨128 * t.val + r.val, by omega⟩ : Fin 2048) (0 : Fin 1) := by
    funext a
    fin_cases a
    · refine Fin.ext ?_
      show cc0_transform_0 (grid0.coords t) 0 * 128 + 1 * r.val = 128 * t.val + r.val
      rw [(map_ids t).1]; omega
    · exact Fin.eq_zero _
  rw [e, V_main_v7]
  generalize V m c main_v0 = tb
  pointwise
  refine congrArg tb ?_
  funext a
  fin_cases a
  refine Fin.ext ?_
  show 128 * t.val + r.val = (128 * t.val + r.val) % 2048
  omega

variable (hid : ∀ c n, (idw (F := Ideal) (V m c main_v0) n).toNat < 64000)

/-- What the kernel's result holds: at token `n`, column `k`, the looked-up entry. -/
def result (c : Dev nD) : FVec Ideal S2048x4096 .bf16 := fun i =>
  entry (m ((c : Thread nD τ).loc main_arg1)) (m ((c : Thread nD τ).loc main_arg2)) ⟨(idw (F := Ideal) (V m c main_v0) (i 0).val).toNat, hid c _⟩ (i 1)

/-- The result block of grid point `t` sits at rows `128 t` to `128 t + 127`. -/
theorem blk_emb (t : Fin (cfgM m).N) (r : Fin 128) (k : Fin 4096) (h : 128 * t.val + r.val < 2048) :
    (((cfgM m).win 1).blk t).view.emb (ix2 r k) = ix2 (⟨128 * t.val + r.val, h⟩ : Fin 2048) k := by
  funext a
  fin_cases a
  · refine Fin.ext ?_
    show cc0_transform_3 (grid0.coords t) 0 * 128 + 1 * r.val = 128 * t.val + r.val
    rw [(map_result t).1]; omega
  · refine Fin.ext ?_
    show cc0_transform_3 (grid0.coords t) 1 * 4096 + 1 * k.val = k.val
    rw [(map_result t).2]; omega

/-- What grid point `t` leaves in the result block is the result array's block. -/
theorem outAt_value (c : Dev nD) (t : Fin (cfgM m).N) (r : Fin 128) (k : Fin 4096) :
    outAt m c t (ix2 r k) = result m hid c ((((cfgM m).win 1).blk t).view.emb (ix2 r k)) := by
  have ht : t.val < 16 := t.isLt
  have hr := r.isLt
  rw [blk_emb m t r k (by omega)]
  unfold outAt
  rw [coords_val, V_main_v3, V_main_v6]
  exact outBlk_value _ _ _ _ _ (hid c) (fun r => iblk_ids m c t r) r k

/-- The same at any index of the block. -/
theorem outAt_value_idx (c : Dev nD) (t : Fin (cfgM m).N) (y : S128x4096.Idx) :
    outAt m c t y = result m hid c ((((cfgM m).win 1).blk t).view.emb y) := by
  have hy : y = ix2 (y 0 : Fin 128) (y 1 : Fin 4096) := by funext a; fin_cases a <;> rfl
  rw [hy]
  exact outAt_value m hid c t _ _

/-- Every index of the result lies in the block of some grid point, which writes it back. -/
theorem cover_result (i : S2048x4096.Idx) : ∃ t : Fin (cfgM m).N, ((cfgM m).win 1).flush t = true ∧ i ∈ (((cfgM m).win 1).blk t).view.set := by
  have h0 : (i 0).val < 2048 := (i 0).isLt
  have h1 : (i 1).val < 4096 := (i 1).isLt
  refine ⟨⟨(i 0).val / 128, show (i 0).val / 128 < 16 by omega⟩, (Window.flush_eq_flushOf _ _).trans (flush_result _), ?_⟩
  have e := blk_emb m ⟨(i 0).val / 128, show (i 0).val / 128 < 16 by omega⟩ ⟨(i 0).val % 128, by omega⟩ ⟨(i 1).val, h1⟩
    (show 128 * ((i 0).val / 128) + (i 0).val % 128 < 2048 by omega)
  have e' : ix2 (⟨128 * ((i 0).val / 128) + (i 0).val % 128, by omega⟩ : Fin 2048) (⟨(i 1).val, h1⟩ : Fin 4096) = i := by
    funext a
    fin_cases a
    · exact Fin.ext (show 128 * ((i 0).val / 128) + (i 0).val % 128 = (i 0).val by omega)
    · rfl
  exact Eq.subst (motive := fun j => j ∈ _) (e.trans e') (View.emb_mem_set _ _)

attribute [local irreducible] outAt result in
/-- The result array after the run holds the looked-up entries. -/
theorem arrAt_result (c : Dev nD) : (dats m 0 c).arrAt 1 (cfgM m).N = result m hid c := by
  refine (dats m 0 c).arrAt_eq_of_emb 1 (result m hid c) (fun t _ y => ?_) (cover_result m)
  rw [after0_1]
  refine (cast_eq _ _).trans ?_
  exact outAt_value_idx m hid c t y

/-- THE KERNEL'S RUN: every weakly fair execution terminates with the looked-up entries in the result and the arguments unchanged. -/
theorem run_result : θ_run defs (onTc (τ := τ) (main (F := Ideal))) ⟨m, fun _ => 0, ρ⟩ (fun r => ∀ c : Dev nD,
      r.2.mem ((c.tc : Thread nD τ).loc main_v8) = result m hid c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 1).trans (arrAt_result m hid c),
      ((h.1 c).2 main_arg0 (Pipeline.mem_restRefs_of (win := spec0) main_arg0 (by decide) (by decide))).trans (V_main_arg0 m c),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c)⟩)
    (run_main_quiescent m ρ hid)

end Cert.KernelIdeal.Proof

end
-- ==== Proof.ReferenceIdealValue.lean ====
/-
  The reference's result array: the rows gathered on the host, decoded by its one kernel, read at an index over the extended reals.
-/
module

public import proofs.«01_k».proof.Proof.Gen.ReferenceIdeal.Value
public import proofs.«01_k».proof.Proof.KernelIdealValue
public import Idealize.ShloMosaic.Lib.Pipeline.ValueKit
public import Idealize.ShloMosaic.Lib.Pointwise
public import Idealize.ShloMosaic.Lib.Routing.Ops
import Mathlib.Tactic.NormNum

@[expose] public section

set_option maxRecDepth 16384

noncomputable section

namespace Cert.ReferenceIdeal.Proof

open Idealize.ShloMosaic Idealize.ShloMosaic.TcCoe Idealize.ShloMosaic.Tactic
open Idealize.SL.Sem
open Cert.ReferenceIdeal Cert.ReferenceIdeal.Gen
open Idealize.ShloMosaic.Pipeline (Dat Window)
open Cert.KernelIdeal.Proof (cell entry)

/-! ## The host's rows -/

/-- The ids as a column of row numbers, a negative one counted from the end. -/
def idCol (x0 : IVec S2x1024 32) : IVec S2048x1 32 :=
  broadcastInDim S2048x1 ![0] bcast_S2048_S2048x1_0
    (select (cmpi .slt (shapeCast S2048 x0 shapeCasts_S2x1024_S2048) (broadcastInDim S2048 ![] bcast_S_S2048 (constantI S_ 32 0#32)))
      (addi (shapeCast S2048 x0 shapeCasts_S2x1024_S2048) (broadcastInDim S2048 ![] bcast_S_S2048 (constantI S_ 32 64000#32)))
      (shapeCast S2048 x0 shapeCasts_S2x1024_S2048))
/-- The code rows of the tokens. -/
def codeRows (x0 : IVec S2x1024 32) (x1 : IVec S64000x2048 8) : IVec S2048x2048 8 :=
  Host.gather gather_S64000x2048_S2048x1_S2048x2048_1_0_n_n_0_1_12048 x1 (idCol x0)
/-- The scales of the tokens, each repeated over its group's 16 bytes. -/
def scaleRows (x0 : IVec S2x1024 32) (x2 : IVec S64000x128 16) : IVec S2048x2048 16 :=
  shapeCast S2048x2048 (broadcastInDim S2048x128x16 ![0, 1, 2] bcast_S2048x128x1_S2048x128x16_0_1_2
    (broadcastInDim S2048x128x1 ![0, 1] bcast_S2048x128_S2048x128x1_0_1
      (Host.gather gather_S64000x128_S2048x1_S2048x128_1_0_n_n_0_1_1128 x2 (idCol x0)))) shapeCasts_S2048x128x16_S2048x2048

/-- The row number of token `n`. -/
def idAt (x0 : IVec S2x1024 32) (n : Fin 2048) : BitVec 32 := shapeCast S2048 x0 shapeCasts_S2x1024_S2048 (ix1 n)

/-- A word below 64000 is not negative. -/
theorem slt_zero (a : BitVec 32) (h : a.toNat < 64000) : IntOp.cmpi .slt a 0#32 = 0#1 := by
  show BitVec.ofBool (a.slt 0#32) = 0#1
  have : a.slt 0#32 = false := by
    rw [Bool.eq_false_iff]
    intro e
    rw [BitVec.slt_iff_toInt_lt, BitVec.toInt_eq_toNat_of_lt (by omega)] at e
    have : (0#32).toInt = 0 := rfl
    omega
  rw [this]; rfl

/-- An id that names a row is its own row number. -/
theorem idCol_apply (x0 : IVec S2x1024 32) (n : Fin 2048) (h : (idAt x0 n).toNat < 64000) : idCol x0 (ix2 n 0) = idAt x0 n := by
  unfold idAt at h ⊢
  unfold idCol
  generalize shapeCast S2048 x0 shapeCasts_S2x1024_S2048 = v at h ⊢
  pointwise
  rw [slt_zero _ h]
  rfl

/-- A gathered code. -/
theorem codeRows_apply (x0 : IVec S2x1024 32) (x1 : IVec S64000x2048 8) (n l : Fin 2048) (h : (idAt x0 n).toNat < 64000) :
    codeRows x0 x1 (ix2 n l) = x1 (ix2 (⟨(idAt x0 n).toNat, h⟩ : Fin 64000) l) :=
  Routing.gather_row (nb := 64000) (B := 2048) (n := 2048) gather_S64000x2048_S2048x1_S2048x2048_1_0_n_n_0_1_12048 rfl rfl rfl rfl rfl x1 (idCol x0) n l
    ⟨(idAt x0 n).toNat, h⟩ ((idCol_apply x0 n h).trans (BitVec.ofNat_toNat _ _ |>.trans (BitVec.setWidth_eq _)).symm) (by norm_num)

/-- A gathered scale. -/
theorem scaleRows_apply (x0 : IVec S2x1024 32) (x2 : IVec S64000x128 16) (n l : Fin 2048) (h : (idAt x0 n).toNat < 64000) :
    scaleRows x0 x2 (ix2 n l) = x2 (ix2 (⟨(idAt x0 n).toNat, h⟩ : Fin 64000) ⟨l.val / 16, by have := l.isLt; omega⟩) := by
  refine Eq.trans ?_ (Routing.gather_row (nb := 64000) (B := 128) (n := 2048) gather_S64000x128_S2048x1_S2048x128_1_0_n_n_0_1_1128 rfl rfl rfl rfl rfl x2 (idCol x0) n
    ⟨l.val / 16, by have := l.isLt; omega⟩ ⟨(idAt x0 n).toNat, h⟩ ((idCol_apply x0 n h).trans (BitVec.ofNat_toNat _ _ |>.trans (BitVec.setWidth_eq _)).symm) (by norm_num))
  unfold scaleRows
  generalize Host.gather gather_S64000x128_S2048x1_S2048x128_1_0_n_n_0_1_1128 x2 (idCol x0) = g
  pointwise
  rfl

/-! ## The decoding kernel -/

/-- The low nibble of a byte, as the kernel takes it. -/
theorem low_nibble : ∀ b : BitVec 8, (IntOp.andi (b.setWidth 32) 15#32).toInt = ((b.toNat / 16 ^ 0 % 16 : ℕ) : ℤ) := by decide +kernel
/-- The high nibble of a byte, as the kernel takes it. -/
theorem high_nibble : ∀ b : BitVec 8, (IntOp.shrsi .vector (b.setWidth 32) 4#32).toInt = ((b.toNat / 16 ^ 1 % 16 : ℕ) : ℤ) := by decide +kernel

/-- The pattern of the constant 8. -/
theorem eight : Ideal.ofBits .f32 1090519040#32 = ((8 : ℝ) : EReal) := by
  simp [Ideal.ofBits, Ideal.ieee, -EReal.coe_mul]; norm_num

/-- A nibble taken as a word, converted and less 8. -/
theorem nibble_sub (w : BitVec 32) (n : ℕ) (h : w.toInt = (n : ℤ)) :
    (FloatOps.sitofp (F := Ideal) .f32 w : EReal) - Ideal.ofBits .f32 1090519040#32 = (((n : ℝ) - 8 : ℝ) : EReal) := by
  rw [eight]
  show ((w.toInt : ℝ) : EReal) - ((8 : ℝ) : EReal) = _
  rw [h, Int.cast_natCast, EReal.coe_sub]

/-- The decoded block at token `n`, column `k`. -/
theorem pay_apply (v0 : Vec Ideal S2048x2048 .i8) (v3 : Vec Ideal S2048x2048 .i16) (n : Fin 2048) (k : Fin 4096) :
    k0_pay1 (F := Ideal) v0 v3 (ix2 n k) = cell (v0 (ix2 n ⟨k.val / 2, by have := k.isLt; omega⟩)) (v3 (ix2 n ⟨k.val / 2, by have := k.isLt; omega⟩)) (k.val % 2) := by
  pointwise [k0_pay1]
  unfold cell
  by_cases h : k.val % 2 < 1
  · rw [dif_pos h]
    exact congrArg (· * _) (nibble_sub _ _ (by rw [low_nibble]; congr 4; omega))
  · rw [dif_neg h]
    exact congrArg (· * _) (nibble_sub _ _ (by rw [high_nibble]; congr 4; omega))

/-! ## The result array -/

variable (m : (ℓ : Loc nD τ sig) → Buf (Elt Ideal) ℓ) (ρ : Dev nD → PrngReg)

/-- The codes that the kernel decodes are the tokens' rows. -/
theorem V_main_v7 (c : Dev nD) : V m c main_v7 = codeRows (m ((c : Thread nD τ).loc main_arg0)) (m ((c : Thread nD τ).loc main_arg1)) := by
  show StableHlo.after hostOps0 _ (Proc.devRef .tc main_v7) = _
  after_results
  rfl
/-- The scales that the kernel decodes with are the tokens' rows. -/
theorem V_main_v17 (c : Dev nD) : V m c main_v17 = scaleRows (m ((c : Thread nD τ).loc main_arg0)) (m ((c : Thread nD τ).loc main_arg2)) := by
  show StableHlo.after hostOps0 _ (Proc.devRef .tc main_v17) = _
  after_results
  rfl

/-- The one grid point. -/
def pt : Fin cfg0.N := ⟨0, by decide⟩
/-- There is no other. -/
theorem eq_pt (t : Fin cfg0.N) : t = pt := Fin.ext (show t.val = 0 by have : t.val < 1 := t.isLt; omega)

/-- The one grid point's code block is the whole array. -/
theorem iblk0 (c : Dev nD) (t : Fin cfg0.N) (y : S2048x2048.Idx) : iblk m c 0 t y = V m c main_v7 y := by
  obtain rfl := eq_pt t
  show V m c main_v7 (((cfg0.win 0).blk pt).view.emb y) = V m c main_v7 y
  refine congrArg (V m c main_v7) ?_
  funext a
  fin_cases a
  · exact Fin.ext (show 0 * 2048 + 1 * (y 0).val = (y 0).val by omega)
  · exact Fin.ext (show 0 * 2048 + 1 * (y 1).val = (y 1).val by omega)
/-- The one grid point's scale block is the whole array. -/
theorem iblk1 (c : Dev nD) (t : Fin cfg0.N) (y : S2048x2048.Idx) : iblk m c 1 t y = V m c main_v17 y := by
  obtain rfl := eq_pt t
  show V m c main_v17 (((cfg0.win 1).blk pt).view.emb y) = V m c main_v17 y
  refine congrArg (V m c main_v17) ?_
  funext a
  fin_cases a
  · exact Fin.ext (show 0 * 2048 + 1 * (y 0).val = (y 0).val by omega)
  · exact Fin.ext (show 0 * 2048 + 1 * (y 1).val = (y 1).val by omega)

variable (hid : ∀ (c : Dev nD) (n : Fin 2048), (idAt (m ((c : Thread nD τ).loc main_arg0)) n).toNat < 64000)

/-- What the reference's result holds: at token `n`, column `k`, the looked-up entry. -/
def result (c : Dev nD) : FVec Ideal S2048x4096 .bf16 := fun i =>
  entry (m ((c : Thread nD τ).loc main_arg1)) (m ((c : Thread nD τ).loc main_arg2)) ⟨(idAt (m ((c : Thread nD τ).loc main_arg0)) (i 0)).toNat, hid c _⟩ (i 1)

/-- The decoded block is the looked-up entries. -/
theorem out_value (c : Dev nD) (t : Fin cfg0.N) (n : Fin 2048) (k : Fin 4096) :
    out0_2 (iblk m c 0 t) (iblk m c 1 t) (ix2 n k) = result m hid c (ix2 n k) := by
  have hk := k.isLt
  rw [show iblk m c 0 t = codeRows _ _ from (funext fun y => iblk0 m c t y).trans (V_main_v7 m c),
    show iblk m c 1 t = scaleRows _ _ from (funext fun y => iblk1 m c t y).trans (V_main_v17 m c)]
  unfold out0_2
  rw [View.canon_unit_zero (by funext a; fin_cases a <;> rfl), View.ld_unit_zero (by funext a; fin_cases a <;> rfl), View.ld_unit_zero (by funext a; fin_cases a <;> rfl),
    pay_apply, codeRows_apply _ _ _ _ (hid c n), scaleRows_apply _ _ _ _ (hid c n)]
  show cell _ (m ((c : Thread nD τ).loc main_arg2) (ix2 _ ⟨k.val / 2 / 16, _⟩)) _ = cell _ (m ((c : Thread nD τ).loc main_arg2) (ix2 _ ⟨k.val / 32, _⟩)) _
  refine congrArg (fun l : Fin 128 => cell _ (m ((c : Thread nD τ).loc main_arg2) (ix2 _ l)) _) (Fin.ext ?_)
  show k.val / 2 / 16 = k.val / 32
  omega

/-- The same at any index. -/
theorem out_value_idx (c : Dev nD) (t : Fin cfg0.N) (i : S2048x4096.Idx) :
    out0_2 (iblk m c 0 t) (iblk m c 1 t) i = result m hid c i := by
  have hi : i = ix2 (i 0 : Fin 2048) (i 1 : Fin 4096) := by funext a; fin_cases a <;> rfl
  rw [hi]
  exact out_value m hid c t _ _

attribute [local irreducible] out0_2 result in
/-- The result array after the run holds the looked-up entries. -/
theorem arrAt_result (c : Dev nD) : (dats m 0 c).arrAt 2 cfg0.N = result m hid c := by
  refine (dats m 0 c).arrAt_eq_of_after_last 2 pt (by decide +kernel) (result m hid c) fun j => ?_
  rw [after0_2]
  refine (cast_eq _ _).trans ?_
  exact out_value_idx m hid c pt j

/-- THE REFERENCE'S RUN: every weakly fair execution terminates with the looked-up entries in the result and the arguments unchanged. -/
theorem run_result : θ_run defs (onTc (τ := τ) (main (F := Ideal))) ⟨m, fun _ => 0, ρ⟩ (fun r => ∀ c : Dev nD,
      r.2.mem ((c.tc : Thread nD τ).loc main_v18) = result m hid c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arrAt_result m hid c), (h c).2⟩) (Value.run_blocks m ρ)

end Cert.ReferenceIdeal.Proof

end
-- ==== Proof.Algebraic.lean ====
/-
  The kernel and the reference end with the same result: both hold the looked-up entry of every token and column.
-/
module

public import proofs.«01_k».proof.Defs
public import proofs.«01_k».proof.Proof.KernelIdealFinal
public import proofs.«01_k».proof.Proof.ReferenceIdealValue

@[expose] public section

noncomputable section

namespace Cert.Proof

open Idealize.ShloMosaic Idealize.ShloMosaic.TcCoe Idealize.SL.Sem

/-- The row number of a token is the same word for the kernel and the reference. -/
theorem id_eq (m : (ℓ : Loc KernelIdeal.nD KernelIdeal.τ KernelIdeal.sig) → Buf (Elt Ideal) ℓ) (c : Dev KernelIdeal.nD) (n : Fin 2048) :
    KernelIdeal.Proof.idw (F := Ideal) (KernelIdeal.Proof.V m c KernelIdeal.main_v0) n.val
      = ReferenceIdeal.Proof.idAt (m ((c.tc : Thread KernelIdeal.nD KernelIdeal.τ).loc KernelIdeal.main_arg0)) n := by
  rw [KernelIdeal.Proof.V_main_v0]
  unfold ReferenceIdeal.Proof.idAt KernelIdeal.Proof.idw
  refine congrArg (shapeCast _ _ _) ?_
  funext a
  fin_cases a
  exact Fin.ext (Nat.mod_eq_of_lt n.isLt)

/-- From arguments that agree, with every id naming a row, the kernel and the reference end with equal results. -/
theorem algebraic : algebraic_KernelIdeal_ReferenceIdeal (hKernelIdeal := KernelIdeal.Gen.facts) (hReferenceIdeal := ReferenceIdeal.Gen.facts)
    (hPre_ids_in_table := Pre_ids_in_table.Gen.facts) := by
  intro m g m' g' hpre hargs
  have hid := KernelIdeal.Proof.table_lt (F := Ideal) m hpre
  have hid' : ∀ (c : Dev ReferenceIdeal.nD) (n : Fin 2048),
      (ReferenceIdeal.Proof.idAt (m' ((c.tc : Thread ReferenceIdeal.nD ReferenceIdeal.τ).loc ReferenceIdeal.main_arg0)) n).toNat < 64000 := fun c n => by
    rw [(hargs c).1]
    exact (congrArg BitVec.toNat (id_eq m c n)).symm.trans_lt (hid c n.val)
  have same : ∀ c : Dev KernelIdeal.nD, ReferenceIdeal.Proof.result m' hid' c = KernelIdeal.Proof.result m hid c := fun c => by
    obtain ⟨e0, e1, e2⟩ := hargs c
    funext i
    unfold ReferenceIdeal.Proof.result KernelIdeal.Proof.result
    rw [e1, e2]
    refine congrArg (fun id => KernelIdeal.Proof.entry _ _ id _) (Fin.ext ?_)
    exact congrArg BitVec.toNat ((congrArg (fun x => ReferenceIdeal.Proof.idAt x (i 0)) e0).trans (id_eq m c (i 0)).symm)
  exact ⟨KernelIdeal.Proof.result m hid, KernelIdeal.Proof.run_result m g hid,
    (θ_run _ _ _).mono (fun _ h c => ⟨(h c).1.trans (same c), (h c).2⟩) (ReferenceIdeal.Proof.run_result m' g' hid')⟩

end Cert.Proof

end
-- ==== Proof.lean ====
module

public import proofs.«01_k».proof.Defs
public import proofs.«01_k».proof.Proof.KernelTable
public import proofs.«01_k».proof.Proof.KernelIdealTable
public import proofs.«01_k».proof.Proof.Gen.ReferenceIdeal.Frame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_ids_in_table.Gen.facts,
  fun m g h => Cert.Kernel.Proof.frame_pre m g h, fun m g h => Cert.KernelIdeal.Proof.frame_pre m g h,
  fun m g _ => Cert.ReferenceIdeal.Gen.frame m g, fun m g _ => Cert.ReferenceIdeal.Gen.frame m g, trivial, algebraic⟩

end Cert.Proof

end
